-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![8192, 1024]⟩ ⟨2, ![16384, 1024]⟩ (Layout.meshBlock [2, 2, 2] ![[0], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S8192x1024 : Shape := ⟨2, ![8192, 1024]⟩
abbrev S16384x1024 : Shape := ⟨2, ![16384, 1024]⟩
abbrev S2x256x1024 : Shape := ⟨3, ![2, 256, 1024]⟩
abbrev S2 : Shape := ⟨1, ![2]⟩
abbrev S16 : Shape := ⟨1, ![16]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S4096x1024 : Shape := ⟨2, ![4096, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8192x1024, .f32⟩
  | .hbm, ⟨1, _⟩ => ⟨S16384x1024, .bf16⟩
  | .local _ .vmem, ⟨0, _⟩ => ⟨S8192x1024, .bf16⟩
  | .local _ .vmem, ⟨1, _⟩ => ⟨S2x256x1024, .f32⟩
  | _, _ => ⟨S8192x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_7 : BitVec 32 := 4#32
  let v15 : BitVec 32 := Scalar.muli v9 c4_i32_7
  let v16 : BitVec 32 := Scalar.addi c0_i32 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v17 : BitVec 32 := Scalar.muli v5 c2_i32_8
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v19 : BitVec 32 := Scalar.muli v8 c1_i32_9
  let v20 : BitVec 32 := Scalar.addi v18 v19
  v20.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v21 : BitVec 32 := Scalar.muli v2 c4_i32_11
  let v22 : BitVec 32 := Scalar.addi c0_i32_12 v21
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_13 : BitVec 32 := 2#32
  let v23 : BitVec 32 := Scalar.muli v10 c2_i32_13
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v25 : BitVec 32 := Scalar.muli v8 c1_i32_14
  let v26 : BitVec 32 := Scalar.addi v24 v25
  v26.toNat
def k0_off1 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c4096_i32 : BitVec 32 := 4096#32
  let v13 : BitVec 32 := Scalar.muli v5 c4096_i32
  let c0_i32_22 : BitVec 32 := 0#32
  ![v13.toNat, 0]
def k0_off2 (d0 : Dev nD) (c256_i32 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c4096_i32 : BitVec 32 := 4096#32
  let v13 : BitVec 32 := Scalar.muli v5 c4096_i32
  let v34 : BitVec 32 := Scalar.addi v13 c256_i32
  let c0_i32_27 : BitVec 32 := 0#32
  ![v34.toNat, 0]
def k0_off3 (d0 : Dev nD) (c0_i32_35 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c4096_i32 : BitVec 32 := 4096#32
  let v13 : BitVec 32 := Scalar.muli v5 c4096_i32
  let v48 : BitVec 32 := Scalar.addi v13 c0_i32_35
  let v49 : Index := Scalar.indexCast v48
  let c0_36 : Index := 0#32
  ![v49.toNat, 0]
def k0_off4 (d0 : Dev nD) (c0_i32_39 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c8192_i32_38 : BitVec 32 := 8192#32
  let v54 : BitVec 32 := Scalar.muli v2 c8192_i32_38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c4096_i32 : BitVec 32 := 4096#32
  let v13 : BitVec 32 := Scalar.muli v5 c4096_i32
  let v55 : BitVec 32 := Scalar.addi v54 v13
  let v56 : BitVec 32 := Scalar.addi v55 c0_i32_39
  let c0_i32_46 : BitVec 32 := 0#32
  ![v56.toNat, 0]
def k0_dev3 (d0 : Dev nD) : Nat :=
  let c0_i32_43 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_42 : BitVec 32 := 4#32
  let v57 : BitVec 32 := Scalar.muli v9 c4_i32_42
  let v58 : BitVec 32 := Scalar.addi c0_i32_43 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_44 : BitVec 32 := 2#32
  let v59 : BitVec 32 := Scalar.muli v5 c2_i32_44
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v61 : BitVec 32 := Scalar.muli v8 c1_i32_45
  let v62 : BitVec 32 := Scalar.addi v60 v61
  v62.toNat
def k0_dev4 (d0 : Dev nD) : Nat :=
  let c0_i32_68 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_67 : BitVec 32 := 4#32
  let v92 : BitVec 32 := Scalar.muli v9 c4_i32_67
  let v93 : BitVec 32 := Scalar.addi c0_i32_68 v92
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v94 : BitVec 32 := Scalar.muli v5 c2_i32_69
  let v95 : BitVec 32 := Scalar.addi v93 v94
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v96 : BitVec 32 := Scalar.muli v8 c1_i32_70
  let v97 : BitVec 32 := Scalar.addi v95 v96
  v97.toNat
def k0_dev5 (d0 : Dev nD) : Nat :=
  let c0_i32_94 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_93 : BitVec 32 := 4#32
  let v127 : BitVec 32 := Scalar.muli v9 c4_i32_93
  let v128 : BitVec 32 := Scalar.addi c0_i32_94 v127
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_95 : BitVec 32 := 2#32
  let v129 : BitVec 32 := Scalar.muli v5 c2_i32_95
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v131 : BitVec 32 := Scalar.muli v8 c1_i32_96
  let v132 : BitVec 32 := Scalar.addi v130 v131
  v132.toNat
def k0_dev6 (d0 : Dev nD) : Nat :=
  let c0_i32_119 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_118 : BitVec 32 := 4#32
  let v162 : BitVec 32 := Scalar.muli v9 c4_i32_118
  let v163 : BitVec 32 := Scalar.addi c0_i32_119 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_120 : BitVec 32 := 2#32
  let v164 : BitVec 32 := Scalar.muli v5 c2_i32_120
  let v165 : BitVec 32 := Scalar.addi v163 v164
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_121 : BitVec 32 := 1#32
  let v166 : BitVec 32 := Scalar.muli v8 c1_i32_121
  let v167 : BitVec 32 := Scalar.addi v165 v166
  v167.toNat
def k0_dev7 (d0 : Dev nD) : Nat :=
  let c0_i32_145 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_144 : BitVec 32 := 4#32
  let v197 : BitVec 32 := Scalar.muli v9 c4_i32_144
  let v198 : BitVec 32 := Scalar.addi c0_i32_145 v197
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_146 : BitVec 32 := 2#32
  let v199 : BitVec 32 := Scalar.muli v5 c2_i32_146
  let v200 : BitVec 32 := Scalar.addi v198 v199
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_147 : BitVec 32 := 1#32
  let v201 : BitVec 32 := Scalar.muli v8 c1_i32_147
  let v202 : BitVec 32 := Scalar.addi v200 v201
  v202.toNat
def k0_dev8 (d0 : Dev nD) : Nat :=
  let c0_i32_170 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_169 : BitVec 32 := 4#32
  let v232 : BitVec 32 := Scalar.muli v9 c4_i32_169
  let v233 : BitVec 32 := Scalar.addi c0_i32_170 v232
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_171 : BitVec 32 := 2#32
  let v234 : BitVec 32 := Scalar.muli v5 c2_i32_171
  let v235 : BitVec 32 := Scalar.addi v233 v234
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v236 : BitVec 32 := Scalar.muli v8 c1_i32_172
  let v237 : BitVec 32 := Scalar.addi v235 v236
  v237.toNat
def k0_dev9 (d0 : Dev nD) : Nat :=
  let c0_i32_195 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_194 : BitVec 32 := 4#32
  let v267 : BitVec 32 := Scalar.muli v9 c4_i32_194
  let v268 : BitVec 32 := Scalar.addi c0_i32_195 v267
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_196 : BitVec 32 := 2#32
  let v269 : BitVec 32 := Scalar.muli v5 c2_i32_196
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_197 : BitVec 32 := 1#32
  let v271 : BitVec 32 := Scalar.muli v8 c1_i32_197
  let v272 : BitVec 32 := Scalar.addi v270 v271
  v272.toNat
def k0_dev10 (d0 : Dev nD) : Nat :=
  let c0_i32_220 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_219 : BitVec 32 := 4#32
  let v302 : BitVec 32 := Scalar.muli v9 c4_i32_219
  let v303 : BitVec 32 := Scalar.addi c0_i32_220 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_221 : BitVec 32 := 2#32
  let v304 : BitVec 32 := Scalar.muli v5 c2_i32_221
  let v305 : BitVec 32 := Scalar.addi v303 v304
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_222 : BitVec 32 := 1#32
  let v306 : BitVec 32 := Scalar.muli v8 c1_i32_222
  let v307 : BitVec 32 := Scalar.addi v305 v306
  v307.toNat
def k0_dev11 (d0 : Dev nD) : Nat :=
  let c0_i32_245 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_244 : BitVec 32 := 4#32
  let v337 : BitVec 32 := Scalar.muli v9 c4_i32_244
  let v338 : BitVec 32 := Scalar.addi c0_i32_245 v337
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_246 : BitVec 32 := 2#32
  let v339 : BitVec 32 := Scalar.muli v5 c2_i32_246
  let v340 : BitVec 32 := Scalar.addi v338 v339
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_247 : BitVec 32 := 1#32
  let v341 : BitVec 32 := Scalar.muli v8 c1_i32_247
  let v342 : BitVec 32 := Scalar.addi v340 v341
  v342.toNat
def k0_dev12 (d0 : Dev nD) : Nat :=
  let c0_i32_270 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_269 : BitVec 32 := 4#32
  let v372 : BitVec 32 := Scalar.muli v9 c4_i32_269
  let v373 : BitVec 32 := Scalar.addi c0_i32_270 v372
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_271 : BitVec 32 := 2#32
  let v374 : BitVec 32 := Scalar.muli v5 c2_i32_271
  let v375 : BitVec 32 := Scalar.addi v373 v374
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_272 : BitVec 32 := 1#32
  let v376 : BitVec 32 := Scalar.muli v8 c1_i32_272
  let v377 : BitVec 32 := Scalar.addi v375 v376
  v377.toNat
def k0_dev13 (d0 : Dev nD) : Nat :=
  let c0_i32_295 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_294 : BitVec 32 := 4#32
  let v407 : BitVec 32 := Scalar.muli v9 c4_i32_294
  let v408 : BitVec 32 := Scalar.addi c0_i32_295 v407
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_296 : BitVec 32 := 2#32
  let v409 : BitVec 32 := Scalar.muli v5 c2_i32_296
  let v410 : BitVec 32 := Scalar.addi v408 v409
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_297 : BitVec 32 := 1#32
  let v411 : BitVec 32 := Scalar.muli v8 c1_i32_297
  let v412 : BitVec 32 := Scalar.addi v410 v411
  v412.toNat
def k0_dev14 (d0 : Dev nD) : Nat :=
  let c0_i32_320 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_319 : BitVec 32 := 4#32
  let v442 : BitVec 32 := Scalar.muli v9 c4_i32_319
  let v443 : BitVec 32 := Scalar.addi c0_i32_320 v442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_321 : BitVec 32 := 2#32
  let v444 : BitVec 32 := Scalar.muli v5 c2_i32_321
  let v445 : BitVec 32 := Scalar.addi v443 v444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_322 : BitVec 32 := 1#32
  let v446 : BitVec 32 := Scalar.muli v8 c1_i32_322
  let v447 : BitVec 32 := Scalar.addi v445 v446
  v447.toNat
def k0_dev15 (d0 : Dev nD) : Nat :=
  let c0_i32_345 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_344 : BitVec 32 := 4#32
  let v477 : BitVec 32 := Scalar.muli v9 c4_i32_344
  let v478 : BitVec 32 := Scalar.addi c0_i32_345 v477
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_346 : BitVec 32 := 2#32
  let v479 : BitVec 32 := Scalar.muli v5 c2_i32_346
  let v480 : BitVec 32 := Scalar.addi v478 v479
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_347 : BitVec 32 := 1#32
  let v481 : BitVec 32 := Scalar.muli v8 c1_i32_347
  let v482 : BitVec 32 := Scalar.addi v480 v481
  v482.toNat
def k0_dev16 (d0 : Dev nD) : Nat :=
  let c0_i32_370 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_369 : BitVec 32 := 4#32
  let v512 : BitVec 32 := Scalar.muli v9 c4_i32_369
  let v513 : BitVec 32 := Scalar.addi c0_i32_370 v512
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_371 : BitVec 32 := 2#32
  let v514 : BitVec 32 := Scalar.muli v5 c2_i32_371
  let v515 : BitVec 32 := Scalar.addi v513 v514
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_372 : BitVec 32 := 1#32
  let v516 : BitVec 32 := Scalar.muli v8 c1_i32_372
  let v517 : BitVec 32 := Scalar.addi v515 v516
  v517.toNat
def k0_dev17 (d0 : Dev nD) : Nat :=
  let c0_i32_395 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_394 : BitVec 32 := 4#32
  let v547 : BitVec 32 := Scalar.muli v9 c4_i32_394
  let v548 : BitVec 32 := Scalar.addi c0_i32_395 v547
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_396 : BitVec 32 := 2#32
  let v549 : BitVec 32 := Scalar.muli v5 c2_i32_396
  let v550 : BitVec 32 := Scalar.addi v548 v549
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_397 : BitVec 32 := 1#32
  let v551 : BitVec 32 := Scalar.muli v8 c1_i32_397
  let v552 : BitVec 32 := Scalar.addi v550 v551
  v552.toNat
def k0_dev18 (d0 : Dev nD) : Nat :=
  let c0_i32_415 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_414 : BitVec 32 := 4#32
  let v576 : BitVec 32 := Scalar.muli v9 c4_i32_414
  let v577 : BitVec 32 := Scalar.addi c0_i32_415 v576
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_416 : BitVec 32 := 2#32
  let v578 : BitVec 32 := Scalar.muli v5 c2_i32_416
  let v579 : BitVec 32 := Scalar.addi v577 v578
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_417 : BitVec 32 := 1#32
  let v580 : BitVec 32 := Scalar.muli v8 c1_i32_417
  let v581 : BitVec 32 := Scalar.addi v579 v580
  v581.toNat
def k0_off5 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c8192_i32_420 : BitVec 32 := 8192#32
  let v588 : BitVec 32 := Scalar.muli v2 c8192_i32_420
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c4096_i32 : BitVec 32 := 4096#32
  let v13 : BitVec 32 := Scalar.muli v5 c4096_i32
  let v589 : BitVec 32 := Scalar.addi v588 v13
  let c0_i32_422 : BitVec 32 := 0#32
  ![v589.toNat, 0]
def k0_off6 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c4096_i32 : BitVec 32 := 4096#32
  let v13 : BitVec 32 := Scalar.muli v5 c4096_i32
  let c0_i32_423 : BitVec 32 := 0#32
  ![v13.toNat, 0]
def k0_off7 (d0 : Dev nD) : Fin 2 → Nat :=
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_16 v5
  let c4096_i32_17 : BitVec 32 := 4096#32
  let v28 : BitVec 32 := Scalar.muli v27 c4096_i32_17
  let c0_i32_428 : BitVec 32 := 0#32
  ![v28.toNat, 0]
def k0_off8 (d0 : Dev nD) (c0_i32_438 : BitVec 32) : Fin 2 → Nat :=
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c8192_i32 : BitVec 32 := 8192#32
  let v12 : BitVec 32 := Scalar.muli v11 c8192_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c4096_i32 : BitVec 32 := 4096#32
  let v13 : BitVec 32 := Scalar.muli v5 c4096_i32
  let v611 : BitVec 32 := Scalar.addi v12 v13
  let v612 : BitVec 32 := Scalar.addi v611 c0_i32_438
  let c0_i32_445 : BitVec 32 := 0#32
  ![v612.toNat, 0]
def k0_dev19 (d0 : Dev nD) : Nat :=
  let c0_i32_442 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_441 : BitVec 32 := 4#32
  let v613 : BitVec 32 := Scalar.muli v2 c4_i32_441
  let v614 : BitVec 32 := Scalar.addi c0_i32_442 v613
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_443 : BitVec 32 := 2#32
  let v615 : BitVec 32 := Scalar.muli v10 c2_i32_443
  let v616 : BitVec 32 := Scalar.addi v614 v615
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_444 : BitVec 32 := 1#32
  let v617 : BitVec 32 := Scalar.muli v8 c1_i32_444
  let v618 : BitVec 32 := Scalar.addi v616 v617
  v618.toNat
def k0_off9 (d0 : Dev nD) (c256_i32_447 : BitVec 32) : Fin 2 → Nat :=
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_16 v5
  let c4096_i32_17 : BitVec 32 := 4096#32
  let v28 : BitVec 32 := Scalar.muli v27 c4096_i32_17
  let v625 : BitVec 32 := Scalar.addi v28 c256_i32_447
  let c0_i32_452 : BitVec 32 := 0#32
  ![v625.toNat, 0]
def k0_off10 (d0 : Dev nD) (c0_i32_461 : BitVec 32) : Fin 2 → Nat :=
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_16 v5
  let c4096_i32_17 : BitVec 32 := 4096#32
  let v28 : BitVec 32 := Scalar.muli v27 c4096_i32_17
  let v639 : BitVec 32 := Scalar.addi v28 c0_i32_461
  let v640 : Index := Scalar.indexCast v639
  let c0_462 : Index := 0#32
  ![v640.toNat, 0]
def k0_dev20 (d0 : Dev nD) : Nat :=
  let c0_i32_476 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_475 : BitVec 32 := 4#32
  let v658 : BitVec 32 := Scalar.muli v2 c4_i32_475
  let v659 : BitVec 32 := Scalar.addi c0_i32_476 v658
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_477 : BitVec 32 := 2#32
  let v660 : BitVec 32 := Scalar.muli v10 c2_i32_477
  let v661 : BitVec 32 := Scalar.addi v659 v660
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_478 : BitVec 32 := 1#32
  let v662 : BitVec 32 := Scalar.muli v8 c1_i32_478
  let v663 : BitVec 32 := Scalar.addi v661 v662
  v663.toNat
def k0_dev21 (d0 : Dev nD) : Nat :=
  let c0_i32_510 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_509 : BitVec 32 := 4#32
  let v703 : BitVec 32 := Scalar.muli v2 c4_i32_509
  let v704 : BitVec 32 := Scalar.addi c0_i32_510 v703
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_511 : BitVec 32 := 2#32
  let v705 : BitVec 32 := Scalar.muli v10 c2_i32_511
  let v706 : BitVec 32 := Scalar.addi v704 v705
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_512 : BitVec 32 := 1#32
  let v707 : BitVec 32 := Scalar.muli v8 c1_i32_512
  let v708 : BitVec 32 := Scalar.addi v706 v707
  v708.toNat
def k0_dev22 (d0 : Dev nD) : Nat :=
  let c0_i32_544 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_543 : BitVec 32 := 4#32
  let v748 : BitVec 32 := Scalar.muli v2 c4_i32_543
  let v749 : BitVec 32 := Scalar.addi c0_i32_544 v748
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_545 : BitVec 32 := 2#32
  let v750 : BitVec 32 := Scalar.muli v10 c2_i32_545
  let v751 : BitVec 32 := Scalar.addi v749 v750
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_546 : BitVec 32 := 1#32
  let v752 : BitVec 32 := Scalar.muli v8 c1_i32_546
  let v753 : BitVec 32 := Scalar.addi v751 v752
  v753.toNat
def k0_dev23 (d0 : Dev nD) : Nat :=
  let c0_i32_578 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_577 : BitVec 32 := 4#32
  let v793 : BitVec 32 := Scalar.muli v2 c4_i32_577
  let v794 : BitVec 32 := Scalar.addi c0_i32_578 v793
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_579 : BitVec 32 := 2#32
  let v795 : BitVec 32 := Scalar.muli v10 c2_i32_579
  let v796 : BitVec 32 := Scalar.addi v794 v795
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_580 : BitVec 32 := 1#32
  let v797 : BitVec 32 := Scalar.muli v8 c1_i32_580
  let v798 : BitVec 32 := Scalar.addi v796 v797
  v798.toNat
def k0_dev24 (d0 : Dev nD) : Nat :=
  let c0_i32_612 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_611 : BitVec 32 := 4#32
  let v838 : BitVec 32 := Scalar.muli v2 c4_i32_611
  let v839 : BitVec 32 := Scalar.addi c0_i32_612 v838
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_613 : BitVec 32 := 2#32
  let v840 : BitVec 32 := Scalar.muli v10 c2_i32_613
  let v841 : BitVec 32 := Scalar.addi v839 v840
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_614 : BitVec 32 := 1#32
  let v842 : BitVec 32 := Scalar.muli v8 c1_i32_614
  let v843 : BitVec 32 := Scalar.addi v841 v842
  v843.toNat
def k0_dev25 (d0 : Dev nD) : Nat :=
  let c0_i32_646 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_645 : BitVec 32 := 4#32
  let v883 : BitVec 32 := Scalar.muli v2 c4_i32_645
  let v884 : BitVec 32 := Scalar.addi c0_i32_646 v883
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_647 : BitVec 32 := 2#32
  let v885 : BitVec 32 := Scalar.muli v10 c2_i32_647
  let v886 : BitVec 32 := Scalar.addi v884 v885
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_648 : BitVec 32 := 1#32
  let v887 : BitVec 32 := Scalar.muli v8 c1_i32_648
  let v888 : BitVec 32 := Scalar.addi v886 v887
  v888.toNat
def k0_dev26 (d0 : Dev nD) : Nat :=
  let c0_i32_680 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_679 : BitVec 32 := 4#32
  let v928 : BitVec 32 := Scalar.muli v2 c4_i32_679
  let v929 : BitVec 32 := Scalar.addi c0_i32_680 v928
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_681 : BitVec 32 := 2#32
  let v930 : BitVec 32 := Scalar.muli v10 c2_i32_681
  let v931 : BitVec 32 := Scalar.addi v929 v930
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_682 : BitVec 32 := 1#32
  let v932 : BitVec 32 := Scalar.muli v8 c1_i32_682
  let v933 : BitVec 32 := Scalar.addi v931 v932
  v933.toNat
def k0_dev27 (d0 : Dev nD) : Nat :=
  let c0_i32_714 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_713 : BitVec 32 := 4#32
  let v973 : BitVec 32 := Scalar.muli v2 c4_i32_713
  let v974 : BitVec 32 := Scalar.addi c0_i32_714 v973
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_715 : BitVec 32 := 2#32
  let v975 : BitVec 32 := Scalar.muli v10 c2_i32_715
  let v976 : BitVec 32 := Scalar.addi v974 v975
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_716 : BitVec 32 := 1#32
  let v977 : BitVec 32 := Scalar.muli v8 c1_i32_716
  let v978 : BitVec 32 := Scalar.addi v976 v977
  v978.toNat
def k0_dev28 (d0 : Dev nD) : Nat :=
  let c0_i32_748 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_747 : BitVec 32 := 4#32
  let v1018 : BitVec 32 := Scalar.muli v2 c4_i32_747
  let v1019 : BitVec 32 := Scalar.addi c0_i32_748 v1018
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_749 : BitVec 32 := 2#32
  let v1020 : BitVec 32 := Scalar.muli v10 c2_i32_749
  let v1021 : BitVec 32 := Scalar.addi v1019 v1020
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_750 : BitVec 32 := 1#32
  let v1022 : BitVec 32 := Scalar.muli v8 c1_i32_750
  let v1023 : BitVec 32 := Scalar.addi v1021 v1022
  v1023.toNat
def k0_dev29 (d0 : Dev nD) : Nat :=
  let c0_i32_782 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_781 : BitVec 32 := 4#32
  let v1063 : BitVec 32 := Scalar.muli v2 c4_i32_781
  let v1064 : BitVec 32 := Scalar.addi c0_i32_782 v1063
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_783 : BitVec 32 := 2#32
  let v1065 : BitVec 32 := Scalar.muli v10 c2_i32_783
  let v1066 : BitVec 32 := Scalar.addi v1064 v1065
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_784 : BitVec 32 := 1#32
  let v1067 : BitVec 32 := Scalar.muli v8 c1_i32_784
  let v1068 : BitVec 32 := Scalar.addi v1066 v1067
  v1068.toNat
def k0_dev30 (d0 : Dev nD) : Nat :=
  let c0_i32_816 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_815 : BitVec 32 := 4#32
  let v1108 : BitVec 32 := Scalar.muli v2 c4_i32_815
  let v1109 : BitVec 32 := Scalar.addi c0_i32_816 v1108
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_817 : BitVec 32 := 2#32
  let v1110 : BitVec 32 := Scalar.muli v10 c2_i32_817
  let v1111 : BitVec 32 := Scalar.addi v1109 v1110
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_818 : BitVec 32 := 1#32
  let v1112 : BitVec 32 := Scalar.muli v8 c1_i32_818
  let v1113 : BitVec 32 := Scalar.addi v1111 v1112
  v1113.toNat
def k0_dev31 (d0 : Dev nD) : Nat :=
  let c0_i32_850 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_849 : BitVec 32 := 4#32
  let v1153 : BitVec 32 := Scalar.muli v2 c4_i32_849
  let v1154 : BitVec 32 := Scalar.addi c0_i32_850 v1153
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_851 : BitVec 32 := 2#32
  let v1155 : BitVec 32 := Scalar.muli v10 c2_i32_851
  let v1156 : BitVec 32 := Scalar.addi v1154 v1155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_852 : BitVec 32 := 1#32
  let v1157 : BitVec 32 := Scalar.muli v8 c1_i32_852
  let v1158 : BitVec 32 := Scalar.addi v1156 v1157
  v1158.toNat
def k0_dev32 (d0 : Dev nD) : Nat :=
  let c0_i32_884 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_883 : BitVec 32 := 4#32
  let v1198 : BitVec 32 := Scalar.muli v2 c4_i32_883
  let v1199 : BitVec 32 := Scalar.addi c0_i32_884 v1198
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_885 : BitVec 32 := 2#32
  let v1200 : BitVec 32 := Scalar.muli v10 c2_i32_885
  let v1201 : BitVec 32 := Scalar.addi v1199 v1200
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_886 : BitVec 32 := 1#32
  let v1202 : BitVec 32 := Scalar.muli v8 c1_i32_886
  let v1203 : BitVec 32 := Scalar.addi v1201 v1202
  v1203.toNat
def k0_dev33 (d0 : Dev nD) : Nat :=
  let c0_i32_918 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_917 : BitVec 32 := 4#32
  let v1243 : BitVec 32 := Scalar.muli v2 c4_i32_917
  let v1244 : BitVec 32 := Scalar.addi c0_i32_918 v1243
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_919 : BitVec 32 := 2#32
  let v1245 : BitVec 32 := Scalar.muli v10 c2_i32_919
  let v1246 : BitVec 32 := Scalar.addi v1244 v1245
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_920 : BitVec 32 := 1#32
  let v1247 : BitVec 32 := Scalar.muli v8 c1_i32_920
  let v1248 : BitVec 32 := Scalar.addi v1246 v1247
  v1248.toNat
def k0_dev34 (d0 : Dev nD) : Nat :=
  let c0_i32_952 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_951 : BitVec 32 := 4#32
  let v1288 : BitVec 32 := Scalar.muli v2 c4_i32_951
  let v1289 : BitVec 32 := Scalar.addi c0_i32_952 v1288
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_953 : BitVec 32 := 2#32
  let v1290 : BitVec 32 := Scalar.muli v10 c2_i32_953
  let v1291 : BitVec 32 := Scalar.addi v1289 v1290
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_954 : BitVec 32 := 1#32
  let v1292 : BitVec 32 := Scalar.muli v8 c1_i32_954
  let v1293 : BitVec 32 := Scalar.addi v1291 v1292
  v1293.toNat
def k0_off11 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c8192_i32_967 : BitVec 32 := 8192#32
  let v1313 : BitVec 32 := Scalar.muli v2 c8192_i32_967
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_16 v5
  let c4096_i32_17 : BitVec 32 := 4096#32
  let v28 : BitVec 32 := Scalar.muli v27 c4096_i32_17
  let v1314 : BitVec 32 := Scalar.addi v1313 v28
  let c0_i32_969 : BitVec 32 := 0#32
  ![v1314.toNat, 0]
def k0_off12 (d0 : Dev nD) : Fin 2 → Nat :=
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_16 v5
  let c4096_i32_17 : BitVec 32 := 4096#32
  let v28 : BitVec 32 := Scalar.muli v27 c4096_i32_17
  let c0_i32_970 : BitVec 32 := 0#32
  ![v28.toNat, 0]
-- ==== Reference.lean ====
abbrev S16384x1024 : Shape := ⟨2, ![16384, 1024]⟩

abbrev nBuf : Space → Nat
  | .hbm => 2
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Flow.lean ====
/-
# The kernel's body as a sequence of steps

The printed body is one straight line of some two hundred and thirty operations. Here the operations are
grouped into steps indexed by the chunk number `k : Fin 16` and by the half of the block a chunk lies in
(`false`: the half this device sends to its neighbour along `x`; `true`: the other half), and the body is
shown to be the composition of those steps. The proof of the run is then made once per step.
-/
module

public import proofs.«01_k».proof.Proof.Gen.Kernel.Skeleton
public import proofs.«01_k».proof.Proof.Gen.Kernel.Launch
public import proofs.«01_k».proof.Proof.Gen.Kernel.Points
public import Idealize.ShloMosaic.Lib.Pipeline.Regions

@[expose] public section

noncomputable section

namespace Cert.Kernel.Flow

open Cert.Kernel Cert.Kernel.Gen
open Idealize.ShloMosaic Idealize.ShloMosaic.TcCoe
open Idealize.SL Idealize.SL.Sem

variable {F : FTy → Type} [FloatOps F]

/-! ## Buffers, slices and semaphores -/

/-- The argument block. -/
abbrev aM : Memref sig .tc .hbm S8192x1024 .f32 := Memref.whole main_arg0
/-- The gathered result. -/
abbrev oM : Memref sig .tc .hbm S16384x1024 .bf16 := Memref.whole main_v1
/-- The device's own block, cast. -/
abbrev bM : Memref sig .tc .vmem S8192x1024 .bf16 := Memref.whole cc0_scratch0
/-- The two staging slots. -/
abbrev tM : Memref sig .tc .vmem S2x256x1024 .f32 := Memref.whole cc0_scratch1

/-- The slot of chunk `k`. -/
def par (k : Fin 16) : Fin 2 := ⟨k.val % 2, Nat.mod_lt _ (by decide)⟩
/-- The next chunk. -/
def nxt (k : Fin 16) (h : k.val + 1 < 16) : Fin 16 := ⟨k.val + 1, h⟩

theorem inb2 (s : Fin 2) : ∀ a, (![s.val] : Fin 1 → Nat) a + S1.size a ≤ S2.size a := by
  revert s; decide
theorem inb16 (k : Fin 16) : ∀ a, (![k.val] : Fin 1 → Nat) a + S1.size a ≤ S16.size a := by
  revert k; decide
theorem inbT (s : Fin 2) : ∀ a, (![s.val, 0, 0] : Fin 3 → Nat) a + S1x256x1024.size a ≤ S2x256x1024.size a := by
  revert s; decide

abbrev sem2 (A : DmaSems sig S2) (s : Fin 2) : DmaSem sig :=
  ((A.slice (Rect.unit (s := S2) ![s.val] S1.size (inb2 s))).squeeze S_ squeezes_S1_S_).sem
abbrev sem16 (A : DmaSems sig S16) (k : Fin 16) : DmaSem sig :=
  ((A.slice (Rect.unit (s := S16) ![k.val] S1.size (inb16 k))).squeeze S_ squeezes_S1_S_).sem

/-- The staging semaphores, the send and receive semaphores of the transfers along `x` and along `y`, and
    the semaphores of the two local copies into the result. -/
abbrev sStag (s : Fin 2) : DmaSem sig := sem2 cc0_scratch2 s
abbrev sXS (k : Fin 16) : DmaSem sig := sem16 cc0_scratch3 k
abbrev sXR (k : Fin 16) : DmaSem sig := sem16 cc0_scratch4 k
abbrev sYS (k : Fin 16) : DmaSem sig := sem16 cc0_scratch5 k
abbrev sYR (k : Fin 16) : DmaSem sig := sem16 cc0_scratch6 k
abbrev sOwn (s : Fin 2) : DmaSem sig := sem2 cc0_scratch7 s
/-- The barrier semaphore. -/
abbrev sBar : Sem sig := (SemArray.scalar (sig.barrier 0 rfl) : Sems sig S_).sem

abbrev slotR (s : Fin 2) : Rect S2x256x1024 := Rect.unit (s := S2x256x1024) ![s.val, 0, 0] S1x256x1024.size (inbT s)
/-- Staging slot `s`. -/
abbrev slotM (s : Fin 2) : Memref sig .tc .vmem S256x1024 .f32 :=
  (tM.slice (slotR s) (fun _ => rfl)).squeeze S256x1024 squeezes_S1x256x1024_S256x1024

/-- Where chunk `k` of a half starts in the argument, as the kernel computes it. -/
def srcOff (d : Dev nD) : Bool → Fin 16 → Fin 2 → Nat
  | false, ⟨0, _⟩ => k0_off1 d
  | false, ⟨n + 1, _⟩ => k0_off2 d (BitVec.ofNat 32 (256 * (n + 1)))
  | true, ⟨0, _⟩ => k0_off7 d
  | true, ⟨n + 1, _⟩ => k0_off9 d (BitVec.ofNat 32 (256 + 256 * n))
/-- Where it is stored in the cast block. -/
def stOff (d : Dev nD) (h : Bool) (k : Fin 16) : Fin 2 → Nat :=
  match h with
  | false => k0_off3 d (BitVec.ofNat 32 (256 * k.val))
  | true => k0_off10 d (BitVec.ofNat 32 (256 * k.val))

theorem srcOff_inb (d : Dev nD) (h : Bool) (k : Fin 16) : ∀ a, srcOff d h k a + S256x1024.size a ≤ S8192x1024.size a :=
  match h, k with
  | false, ⟨0, _⟩ => k0_off1_inb d
  | false, ⟨n + 1, hn⟩ => k0_off2_inb d ⟨n + 1, hn⟩
  | true, ⟨0, _⟩ => k0_off7_inb d
  | true, ⟨n + 1, hn⟩ => k0_off9_inb d ⟨n, Nat.lt_of_succ_lt_succ hn⟩
theorem stOff_inb (d : Dev nD) (h : Bool) (k : Fin 16) : ∀ a, stOff d h k a + S256x1024.size a ≤ S8192x1024.size a :=
  match h with
  | false => k0_off3_inb d k
  | true => k0_off10_inb d k

abbrev srcM (d : Dev nD) (h : Bool) (k : Fin 16) : Memref sig .tc .hbm S256x1024 .f32 :=
  aM.slice (Rect.unit (s := S8192x1024) (srcOff d h k) S256x1024.size (srcOff_inb d h k)) (fun _ => rfl)
abbrev stR (d : Dev nD) (h : Bool) (k : Fin 16) : Rect S8192x1024 :=
  Rect.unit (s := S8192x1024) (stOff d h k) S256x1024.size (stOff_inb d h k)
theorem stR_packed (d : Dev nD) (h : Bool) (k : Fin 16) : (stR d h k).PackedRows (EltTy.packing .bf16) :=
  match h with
  | false => k0_off3_packedbf16 d k
  | true => k0_off10_packedbf16 d k

abbrev bR (d : Dev nD) (k : Fin 16) : Rect S8192x1024 :=
  Rect.unit (s := S8192x1024) (k0_off2 d (BitVec.ofNat 32 (256 * k.val))) S256x1024.size (k0_off2_inb d k)
abbrev xR (d : Dev nD) (k : Fin 16) : Rect S16384x1024 :=
  Rect.unit (s := S16384x1024) (k0_off4 d (BitVec.ofNat 32 (256 * k.val))) S256x1024.size (k0_off4_inb d k)
abbrev yR (d : Dev nD) (k : Fin 16) : Rect S16384x1024 :=
  Rect.unit (s := S16384x1024) (k0_off8 d (BitVec.ofNat 32 (256 * k.val))) S256x1024.size (k0_off8_inb d k)
/-- Chunk `k` of the cast block's sent half. -/
abbrev bC (d : Dev nD) (k : Fin 16) : Memref sig .tc .vmem S256x1024 .bf16 := bM.slice (bR d k) (fun _ => rfl)
/-- The rows of the result chunk `k` is written to on the neighbour along `x`. -/
abbrev xC (d : Dev nD) (k : Fin 16) : Memref sig .tc .hbm S256x1024 .bf16 := oM.slice (xR d k) (fun _ => rfl)
/-- The rows of the result the neighbour along `x` wrote, which are forwarded along `y`. -/
abbrev yC (d : Dev nD) (k : Fin 16) : Memref sig .tc .hbm S256x1024 .bf16 := oM.slice (yR d k) (fun _ => rfl)

theorem bC_words (d : Dev nD) (k : Fin 16) : (bC d k).view.WordExact :=
  (Memref.isWhole_whole cc0_scratch0).wordExact_slice rfl _ (k0_off2_wordsbf16 d k)
theorem xC_words (d : Dev nD) (k : Fin 16) : (xC d k).view.WordExact :=
  (Memref.isWhole_whole main_v1).wordExact_slice rfl _ (k0_off4_wordsbf16 d k)
theorem yC_words (d : Dev nD) (k : Fin 16) : (yC d k).view.WordExact :=
  (Memref.isWhole_whole main_v1).wordExact_slice rfl _ (k0_off8_wordsbf16 d k)

/-- The half of the result (`false`) resp. of the cast block (`true`) a local copy moves. -/
def ownDstOff (d : Dev nD) : Bool → Fin 2 → Nat
  | false => k0_off5 d
  | true => k0_off11 d
def ownSrcOff (d : Dev nD) : Bool → Fin 2 → Nat
  | false => k0_off6 d
  | true => k0_off12 d
theorem ownDst_inb (d : Dev nD) : ∀ h a, ownDstOff d h a + S4096x1024.size a ≤ S16384x1024.size a
  | false => k0_off5_inb d
  | true => k0_off11_inb d
theorem ownSrc_inb (d : Dev nD) : ∀ h a, ownSrcOff d h a + S4096x1024.size a ≤ S8192x1024.size a
  | false => k0_off6_inb d
  | true => k0_off12_inb d
abbrev ownDst (d : Dev nD) (h : Bool) : Memref sig .tc .hbm S4096x1024 .bf16 :=
  oM.slice (Rect.unit (s := S16384x1024) (ownDstOff d h) S4096x1024.size (ownDst_inb d h)) (fun _ => rfl)
abbrev ownSrc (d : Dev nD) (h : Bool) : Memref sig .tc .vmem S4096x1024 .bf16 :=
  bM.slice (Rect.unit (s := S8192x1024) (ownSrcOff d h) S4096x1024.size (ownSrc_inb d h)) (fun _ => rfl)
theorem ownDst_words (d : Dev nD) : ∀ h, (ownDst d h).view.WordExact
  | false => (Memref.isWhole_whole main_v1).wordExact_slice rfl _ (k0_off5_wordsbf16 d)
  | true => (Memref.isWhole_whole main_v1).wordExact_slice rfl _ (k0_off11_wordsbf16 d)
theorem ownSrc_words (d : Dev nD) : ∀ h, (ownSrc d h).view.WordExact
  | false => (Memref.isWhole_whole cc0_scratch0).wordExact_slice rfl _ (k0_off6_wordsbf16 d)
  | true => (Memref.isWhole_whole cc0_scratch0).wordExact_slice rfl _ (k0_off12_wordsbf16 d)

/-- The neighbours along `x` and along `y`, as the kernel computes them. -/
abbrev xDev (d : Dev nD) : Dev nD := ⟨k0_dev1 d, k0_dev1_lt d⟩
abbrev yDev (d : Dev nD) : Dev nD := ⟨k0_dev2 d, k0_dev2_lt d⟩
abbrev xDevT (d : Dev nD) : Dev nD := ⟨k0_dev3 d, k0_dev3_lt d⟩
abbrev yDevT (d : Dev nD) : Dev nD := ⟨k0_dev19 d, k0_dev19_lt d⟩

/-! ## The steps -/

/-- The programs a step takes and makes. -/
abbrev P (F : FTy → Type) [FloatOps F] : Type 1 := Prog (TpuEff nD τ sig (Elt F) Λ₀ .tc) PUnit

/-- Start copying chunk `k` of half `h` of the argument to its slot. -/
def fetch (d : Dev nD) (h : Bool) (k : Fin 16) (rest : P F) : P F :=
  .op (.enqueueDma (srcM d h k) (.here (slotM (par k))) (.dma (sStag (par k))) (View.wordExact_bits rfl)
    ((View.wordExact_bits rfl).reshape _ _) ⟨Or.inl rfl, trivial⟩) fun _ => rest

/-- The same for the chunk after `k`, if there is one. -/
def fetchNext (d : Dev nD) (h : Bool) (k : Fin 16) (rest : P F) : P F :=
  if hk : k.val + 1 < 16 then fetch d h (nxt k hk) rest else rest

/-- Wait for chunk `k` to be in its slot, read it, and store its cast in the device's block. -/
def castIn (d : Dev nD) (h : Bool) (k : Fin 16) (rest : P F) : P F :=
  .op (.waitDma2 (sStag (par k)) (srcM d h k) (slotM (par k)) (View.wordExact_bits rfl) ((View.wordExact_bits rfl).reshape _ _)) fun _ =>
  .op (.load tM (slotR (par k)).toLoadRect (View.loadsAt_vmem h_S1x256x1024)) fun v : Vec F S1x256x1024 .f32 =>
  .op (.load bM (stR d h k).toLoadRect (View.loadsAt_vmem h_S256x1024)) fun _ : Vec F S256x1024 .bf16 =>
  .op (.store bM (stR d h k) (k0_pay1 v) Finset.univ
    (View.stores_vmem h_S256x1024 ((Memref.isWhole_whole cc0_scratch0).storeExact_slice rfl _ (stR_packed d h k)) (fun _ => rfl)) (.inl rfl)) fun _ => rest

/-- Send chunk `k` of the cast block to the neighbour along `x`. -/
def sendX (d : Dev nD) (k : Fin 16) (rest : P F) : P F :=
  .op (.enqueueDma (bC d k) (.remote (Dev.tc (xDevT d)) (xC d k) (.dma (sXS k))) (.dma (sXR k)) (bC_words d k) (xC_words d k)
    ⟨⟨rfl, Or.inl rfl⟩, trivial⟩) fun _ => rest
/-- Wait for the chunk the neighbour along `x` sends. -/
def recvX (d : Dev nD) (k : Fin 16) (rest : P F) : P F :=
  .op (.waitDma2 (sXR k) (bC d k) (xC d k) (bC_words d k) (xC_words d k)) fun _ => rest
/-- Forward it to the neighbour along `y`. -/
def sendY (d : Dev nD) (k : Fin 16) (rest : P F) : P F :=
  .op (.enqueueDma (yC d k) (.remote (Dev.tc (yDevT d)) (yC d k) (.dma (sYS k))) (.dma (sYR k)) (yC_words d k) (yC_words d k)
    ⟨⟨rfl, Or.inl rfl⟩, trivial⟩) fun _ => rest
/-- Wait for the chunk the neighbour along `y` forwards. -/
def recvY (d : Dev nD) (k : Fin 16) (rest : P F) : P F :=
  .op (.waitDma2 (sYR k) (yC d k) (yC d k) (yC_words d k) (yC_words d k)) fun _ => rest
/-- Wait until the two transfers out of chunk `k` have left. -/
def sent (d : Dev nD) (k : Fin 16) (rest : P F) : P F :=
  .op (.waitDma2 (sXS k) (xC d k) (bC d k) (xC_words d k) (bC_words d k)) fun _ =>
  .op (.waitDma2 (sYS k) (yC d k) (yC d k) (yC_words d k) (yC_words d k)) fun _ => rest

/-- Start, and wait for, the local copy of a half of the cast block into the result. -/
def ownSlot : Bool → Fin 2
  | false => 0
  | true => 1
def copyOwn (d : Dev nD) (h : Bool) (rest : P F) : P F :=
  .op (.enqueueDma (ownSrc d h) (.here (ownDst d h)) (.dma (sOwn (ownSlot h))) (ownSrc_words d h) (ownDst_words d h)
    ⟨Or.inl rfl, trivial⟩) fun _ => rest
def waitOwn (d : Dev nD) (h : Bool) (rest : P F) : P F :=
  .op (.waitDma2 (sOwn (ownSlot h)) (ownSrc d h) (ownDst d h) (ownSrc_words d h) (ownDst_words d h)) fun _ => rest

/-- Sixteen steps, chunk by chunk. -/
def each (step : Fin 16 → P F → P F) (rest : P F) : P F :=
  step 0 <| step 1 <| step 2 <| step 3 <| step 4 <| step 5 <| step 6 <| step 7 <|
  step 8 <| step 9 <| step 10 <| step 11 <| step 12 <| step 13 <| step 14 <| step 15 rest

def phase1 (d : Dev nD) (k : Fin 16) (rest : P F) : P F :=
  fetchNext d false k <| castIn d false k <| sendX d k rest
def phase2 (d : Dev nD) (k : Fin 16) (rest : P F) : P F :=
  recvX d k <| sendY d k <| fetchNext d true k <| castIn d true k rest

/-- Tell both neighbours that this device is ready, and wait to be told by both. -/
def handshake (d : Dev nD) (rest : P F) : P F :=
  .op (.semSignal (Dev.tc (xDev d)) sBar ((1#32 : BitVec 32).toInt)) fun _ =>
  .op (.semSignal (Dev.tc (yDev d)) sBar ((1#32 : BitVec 32).toInt)) fun _ =>
  .op (.semWait sBar ((2#32 : BitVec 32).toInt)) fun _ => rest

/-- The body. -/
def steps (d : Dev nD) : P F :=
  handshake d <| fetch d false 0 <| each (phase1 d) <| copyOwn d false <| fetch d true 0 <|
  each (phase2 d) <| copyOwn d true <| each (recvY d) <| each (sent d) <| waitOwn d false <| waitOwn d true <| .ret ⟨⟩

def body : P F := .op .deviceId fun d => steps d

set_option maxRecDepth 100000 in
theorem body_eq (t : Fin cfg0.N) : bodyAt0 (F := F) t = body := by
  chain_rfl

end Cert.Kernel.Flow

end
-- ==== Proof.Blocks.lean ====
/-
# Rows, blocks and contents

Which rows every slice of `Flow` covers, in closed form, and what the buffers hold: a device's block cast to
bf16 (`blk`), and the gathered result (`gath`). The last section says that each copy, and each store, of the
kernel writes exactly these contents.
-/
module

public import proofs.«01_k».proof.Proof.Flow
public import Idealize.ShloMosaic.Lib.Pipeline.Value

@[expose] public section

noncomputable section

namespace Cert.Kernel.Flow

open Cert.Kernel Cert.Kernel.Gen
open Idealize.ShloMosaic Idealize.ShloMosaic.TcCoe
open Idealize.SL Idealize.SL.Sem

variable {F : FTy → Type} [FloatOps F]

/-! ## The mesh -/

/-- The coordinates of a device along `x` and along `y`. -/
abbrev cx (c : Dev nD) : Nat := c.val / 4
abbrev cy (c : Dev nD) : Nat := (c.val / 2) % 2

set_option backward.proofsInPublic true in
/-- The neighbour along `x`. -/
def xp (c : Dev nD) : Dev nD := ⟨(c.val + 4) % 8, Nat.mod_lt _ (by decide)⟩
set_option backward.proofsInPublic true in
/-- The neighbour along `y`. -/
def yp (c : Dev nD) : Dev nD := ⟨4 * (c.val / 4) + (c.val % 4 + 2) % 4, by have := c.isLt; simp only [nD] at *; omega⟩

theorem xp_xp (c : Dev nD) : xp (xp c) = c := by revert c; decide
theorem yp_yp (c : Dev nD) : yp (yp c) = c := by revert c; decide
theorem xp_yp (c : Dev nD) : xp (yp c) = yp (xp c) := by revert c; decide
theorem xp_ne_yp (c : Dev nD) : xp c ≠ yp c := by revert c; decide
theorem cx_xp (c : Dev nD) : cx (xp c) = 1 - cx c := by revert c; decide
theorem cy_xp (c : Dev nD) : cy (xp c) = cy c := by revert c; decide
theorem cx_yp (c : Dev nD) : cx (yp c) = cx c := by revert c; decide
theorem cy_yp (c : Dev nD) : cy (yp c) = 1 - cy c := by revert c; decide
theorem cx_lt (c : Dev nD) : cx c < 2 := by revert c; decide
theorem cy_lt (c : Dev nD) : cy c < 2 := by revert c; decide

/-- Taking the neighbour is an involution. -/
def xSwap : Dev nD ≃ Dev nD := ⟨xp, xp, xp_xp, xp_xp⟩
def ySwap : Dev nD ≃ Dev nD := ⟨yp, yp, yp_yp, yp_yp⟩

theorem xDev_eq (c : Dev nD) : xDev c = xp c := by
  refine Fin.ext ((k0_dev1_eq c).trans ?_); revert c; decide
theorem yDev_eq (c : Dev nD) : yDev c = yp c := by
  refine Fin.ext ((k0_dev2_eq c).trans ?_); revert c; decide
theorem xDevT_eq (c : Dev nD) : xDevT c = xp c := by
  refine Fin.ext ((k0_dev3_eq c).trans ?_); revert c; decide
theorem yDevT_eq (c : Dev nD) : yDevT c = yp c := by
  refine Fin.ext ((k0_dev19_eq c).trans ?_); revert c; decide

/-! ## The slices' first rows -/

/-- The first row of a half of the block: the half sent along `x`, and the other one. -/
def half (c : Dev nD) : Bool → Nat
  | false => 4096 * cy c
  | true => 4096 - 4096 * cy c
theorem half_false (c : Dev nD) : half c false = 4096 * cy c := rfl
theorem half_true (c : Dev nD) : half c true = 4096 - 4096 * cy c := rfl
/-- The first row of chunk `k` of a half. -/
def row (c : Dev nD) (h : Bool) (k : Fin 16) : Nat := half c h + 256 * k.val
/-- The first row in the result of the chunk the neighbour along `x` sends to `c`. -/
def miss (c : Dev nD) (k : Fin 16) : Nat := 8192 - 8192 * cx c + 4096 * cy c + 256 * k.val

theorem vec_eq {a b : Nat} (h : a = b) : (![a, 0] : Fin 2 → Nat) = ![b, 0] := by rw [h]
/-- The other half's first row, subtracted from a sum or added to one. -/
theorem sub_half (c : Dev nD) (a : Nat) : (a + 4096) - 4096 * (c.val / 2 % 2) = (4096 - 4096 * (c.val / 2 % 2)) + a := by omega

theorem srcOff_eq (c : Dev nD) (h : Bool) (k : Fin 16) : srcOff c h k = ![row c h k, 0] := by
  have hc := cy_lt c
  match h, k with
  | false, ⟨0, _⟩ => exact (k0_off1_eq c).trans (by simp [row, half])
  | false, ⟨n + 1, hn⟩ => exact (k0_off2_eq c ⟨n + 1, hn⟩).trans (by simp [row, half])
  | true, ⟨0, _⟩ => exact (k0_off7_eq c).trans (by simp [row, half])
  | true, ⟨n + 1, hn⟩ =>
    refine (k0_off9_eq c ⟨n, Nat.lt_of_succ_lt_succ hn⟩).trans (vec_eq ?_)
    show 256 * n + 4352 - 4096 * (c.val / 2 % 2) = (4096 - 4096 * (c.val / 2 % 2)) + 256 * (n + 1)
    omega
theorem stOff_eq (c : Dev nD) (h : Bool) (k : Fin 16) : stOff c h k = ![row c h k, 0] := by
  have hc := cy_lt c
  match h with
  | false => exact (k0_off3_eq c k).trans (by simp [row, half])
  | true =>
    exact (k0_off10_eq c k).trans (vec_eq (sub_half c _))
theorem bOff_eq (c : Dev nD) (k : Fin 16) : k0_off2 c (BitVec.ofNat 32 (256 * k.val)) = ![row c false k, 0] := k0_off2_eq c k
theorem xOff_eq (c : Dev nD) (k : Fin 16) : k0_off4 c (BitVec.ofNat 32 (256 * k.val)) = ![miss (xp c) k, 0] := by
  refine (k0_off4_eq c k).trans (vec_eq ?_)
  have hc : c.val / 4 < 2 := cx_lt c
  unfold miss; rw [cx_xp, cy_xp]
  show 8192 * (c.val / 4) + 4096 * (c.val / 2 % 2) + 256 * k.val = 8192 - 8192 * (1 - c.val / 4) + 4096 * (c.val / 2 % 2) + 256 * k.val
  omega
theorem yOff_eq (c : Dev nD) (k : Fin 16) : k0_off8 c (BitVec.ofNat 32 (256 * k.val)) = ![miss c k, 0] := by
  refine (k0_off8_eq c k).trans (vec_eq ?_)
  have hc : c.val / 4 < 2 := cx_lt c
  show (4096 * (c.val / 2 % 2) + 256 * k.val + 8192) - 8192 * (c.val / 4) = 8192 - 8192 * (c.val / 4) + 4096 * (c.val / 2 % 2) + 256 * k.val
  omega
theorem ownDstOff_eq (c : Dev nD) (h : Bool) : ownDstOff c h = ![8192 * cx c + half c h, 0] := by
  have hc := cy_lt c
  match h with
  | false => exact k0_off5_eq c
  | true =>
    refine (k0_off11_eq c).trans (vec_eq ?_)
    show (8192 * (c.val / 4) + 4096) - 4096 * (c.val / 2 % 2) = 8192 * (c.val / 4) + (4096 - 4096 * (c.val / 2 % 2))
    omega
theorem ownSrcOff_eq (c : Dev nD) (h : Bool) : ownSrcOff c h = ![half c h, 0] := by
  match h with
  | false => exact k0_off6_eq c
  | true => exact k0_off12_eq c

/-! ## Row sets -/

/-- Rows `lo, …, lo + n - 1` of a block, and of the result. -/
def rowsA (lo n : Nat) : Finset S8192x1024.Idx := Finset.univ.filter fun i => lo ≤ (i 0).val ∧ (i 0).val < lo + n
def rowsO (lo n : Nat) : Finset S16384x1024.Idx := Finset.univ.filter fun i => lo ≤ (i 0).val ∧ (i 0).val < lo + n

theorem mem_rowsA {lo n : Nat} {i : S8192x1024.Idx} : i ∈ rowsA lo n ↔ lo ≤ (i 0).val ∧ (i 0).val < lo + n := by
  simp [rowsA]
theorem mem_rowsO {lo n : Nat} {i : S16384x1024.Idx} : i ∈ rowsO lo n ↔ lo ≤ (i 0).val ∧ (i 0).val < lo + n := by
  simp [rowsO]

theorem rectA_set {off : Fin 2 → Nat} {n lo : Nat} (inb : ∀ a, off a + (![n, 1024] : Fin 2 → Nat) a ≤ S8192x1024.size a)
    (h : off = ![lo, 0]) : (Rect.unit (s := S8192x1024) off ![n, 1024] inb).set = rowsA lo n := by
  subst h
  ext i
  rw [Rect.mem_set_unit, mem_rowsA]
  refine ⟨fun h => h 0, fun h a => ?_⟩
  match a with
  | ⟨0, _⟩ => exact h
  | ⟨1, _⟩ => exact ⟨Nat.zero_le _, by simpa using (i 1).isLt⟩
theorem rectO_set {off : Fin 2 → Nat} {n lo : Nat} (inb : ∀ a, off a + (![n, 1024] : Fin 2 → Nat) a ≤ S16384x1024.size a)
    (h : off = ![lo, 0]) : (Rect.unit (s := S16384x1024) off ![n, 1024] inb).set = rowsO lo n := by
  subst h
  ext i
  rw [Rect.mem_set_unit, mem_rowsO]
  refine ⟨fun h => h 0, fun h a => ?_⟩
  match a with
  | ⟨0, _⟩ => exact h
  | ⟨1, _⟩ => exact ⟨Nat.zero_le _, by simpa using (i 1).isLt⟩

theorem srcM_set (c : Dev nD) (h : Bool) (k : Fin 16) : (srcM c h k).view.set = rowsA (row c h k) 256 :=
  (View.set_slice_whole main_arg0 _).trans (rectA_set (srcOff_inb c h k) (srcOff_eq c h k))
theorem st_set (c : Dev nD) (h : Bool) (k : Fin 16) : (bM.access (stR c h k) : View sig .tc _ _ _).set = rowsA (row c h k) 256 :=
  (View.set_slice_whole cc0_scratch0 _).trans (rectA_set (stOff_inb c h k) (stOff_eq c h k))
theorem bC_set (c : Dev nD) (k : Fin 16) : (bC c k).view.set = rowsA (row c false k) 256 :=
  (View.set_slice_whole cc0_scratch0 _).trans (rectA_set (k0_off2_inb c k) (bOff_eq c k))
theorem xC_set (c : Dev nD) (k : Fin 16) : (xC c k).view.set = rowsO (miss (xp c) k) 256 :=
  (View.set_slice_whole main_v1 _).trans (rectO_set (k0_off4_inb c k) (xOff_eq c k))
theorem yC_set (c : Dev nD) (k : Fin 16) : (yC c k).view.set = rowsO (miss c k) 256 :=
  (View.set_slice_whole main_v1 _).trans (rectO_set (k0_off8_inb c k) (yOff_eq c k))
theorem ownDst_set (c : Dev nD) (h : Bool) : (ownDst c h).view.set = rowsO (8192 * cx c + half c h) 4096 :=
  (View.set_slice_whole main_v1 _).trans (rectO_set (ownDst_inb c h) (ownDstOff_eq c h))
theorem ownSrc_set (c : Dev nD) (h : Bool) : (ownSrc c h).view.set = rowsA (half c h) 4096 :=
  (View.set_slice_whole cc0_scratch0 _).trans (rectA_set (ownSrc_inb c h) (ownSrcOff_eq c h))

/-! ## Contents -/

/-- An f32 block cast to bf16. -/
def castBlk (X : S8192x1024.Idx → F .f32) : S8192x1024.Idx → F .bf16 := truncf .bf16 (X : FVec F S8192x1024 .f32) bitsLt_bf16_f32

/-- Index `(r, j)` of a block. -/
def at8 (r : Nat) (hr : r < 8192) (j : Fin 1024) : S8192x1024.Idx := Fin.cons ⟨r, hr⟩ (Fin.cons j finZeroElim)

/-- Whose block row `r` of `c`'s result comes from: its own, its neighbour's along `x` — the rows that neighbour sends it —,
    or that of its neighbour's neighbour. -/
def whose (c : Dev nD) (r : Nat) : Dev nD :=
  if r / 8192 = cx c then c else if (r % 8192) / 4096 = cy c then xp c else xp (yp c)

/-- The gathered result on device `c`, the devices' cast blocks being `B`. -/
def gathOf (B : Dev nD → S8192x1024.Idx → F .bf16) (c : Dev nD) : S16384x1024.Idx → F .bf16 := fun i =>
  B (whose c (i 0).val) (at8 ((i 0).val % 8192) (Nat.mod_lt _ (by decide)) (i 1))

omit [FloatOps F] in
theorem gathOf_eq (B : Dev nD → S8192x1024.Idx → F .bf16) (c d : Dev nD) (i : S16384x1024.Idx) (j : S8192x1024.Idx)
    (hd : whose c (i 0).val = d) (h0 : (i 0).val % 8192 = (j 0).val) (h1 : (i 1).val = (j 1).val) :
    gathOf B c i = B d j := by
  unfold gathOf; rw [hd]; congr 1
  funext a
  match a with
  | ⟨0, _⟩ => exact Fin.ext h0
  | ⟨1, _⟩ => exact Fin.ext h1

/-! ## What the copies and the stores write -/

section Writes
variable {sp : Space} {s : Shape} {e : EltTy} {Val : EltTy → Type}

/-- A write through a view leaves, on the view's elements, contents that read as what was written. -/
theorem write_eq_on (v : View sig .tc sp s e) (f g : v.ty.Contents Val) (w : s.Idx → Val e) (h : v.read Val g = w) :
    ∀ i ∈ v.set, v.write Val f w Finset.univ i = g i := by
  intro i hi
  obtain ⟨x, -, rfl⟩ := Finset.mem_map.mp hi
  rw [View.write_emb, if_pos (Finset.mem_univ _), ← h, View.read_apply, cast_cast, cast_eq]
end Writes

theorem unit_idx_val {s : Shape} {off size : Fin s.rank → Nat} {inb : ∀ a, off a + size a ≤ s.size a}
    (j : (Rect.unit (s := s) off size inb).shape.Idx) (a : Fin s.rank) :
    (((Rect.unit (s := s) off size inb).idx j a : Fin _) : Nat) = off a + j a := by
  show off a + 1 * (j a).val = _; rw [Nat.one_mul]

/-- The stored payload: the slot's contents as the copy left them, cast. -/
theorem pay_eq (s : Fin 2) (f : (slotM s).view.ty.Contents (Elt F)) (w : S256x1024.Idx → F .f32) :
    k0_pay1 (tM.view.readAt (Elt F) (slotR s).toLoadRect ((slotM s).view.write (Elt F) f w Finset.univ))
      = truncf .bf16 (w : FVec F S256x1024 .f32) bitsLt_bf16_f32 := by
  unfold k0_pay1
  simp only [shapeCast_self]
  rw [← Memref.read_squeeze_slice tM (slotR s) (fun _ => rfl) squeezes_S1x256x1024_S256x1024 shapeCasts_S1x256x1024_S256x1024]
  exact congrArg (fun v : FVec F S256x1024 .f32 => truncf .bf16 v bitsLt_bf16_f32) (View.read_write_univ _ _)

theorem st_eq (c : Dev nD) (h : Bool) (k : Fin 16) (X : S8192x1024.Idx → F .f32) (fs : (slotM (par k)).view.ty.Contents (Elt F))
    (f : (cc0_scratch0 : Ref sig .tc).ty.Contents (Elt F)) :
    ∀ i ∈ rowsA (row c h k) 256, (bM.access (stR c h k) : View sig .tc _ _ _).write (Elt F) f
      (k0_pay1 (tM.view.readAt (Elt F) (slotR (par k)).toLoadRect
        ((slotM (par k)).view.write (Elt F) fs ((srcM c h k).view.read (Elt F) X) Finset.univ))) Finset.univ i = castBlk X i := by
  intro i hi
  rw [pay_eq]
  refine write_eq_on (bM.access (stR c h k) : View sig .tc _ _ _) f (castBlk X) _ ?_ i (by rw [st_set]; exact hi)
  have hE : stOff c h k = srcOff c h k := (stOff_eq c h k).trans (srcOff_eq c h k).symm
  funext x
  refine congrArg (FloatOps.truncf .bf16 bitsLt_bf16_f32) ?_
  show X ((stR c h k).idx x) = X ((Rect.unit (s := S8192x1024) (srcOff c h k) S256x1024.size (srcOff_inb c h k)).idx x)
  congr 1
  funext a
  refine Fin.ext ?_
  rw [unit_idx_val, unit_idx_val]
  exact congrArg (· + (x a).val) (congrFun hE a)

/-- The same index of two slices. -/
theorem sliceX (B : Dev nD → S8192x1024.Idx → F .bf16) (c d : Dev nD) {n ro ra : Nat} {oo oa : Fin 2 → Nat}
    (io : ∀ a, oo a + (![n, 1024] : Fin 2 → Nat) a ≤ S16384x1024.size a) (ia : ∀ a, oa a + (![n, 1024] : Fin 2 → Nat) a ≤ S8192x1024.size a)
    (ho : oo = ![ro, 0]) (ha : oa = ![ra, 0]) (hd : ∀ r < n, whose c (ro + r) = d ∧ (ro + r) % 8192 = ra + r) :
    (fun x => gathOf B c ((Rect.unit (s := S16384x1024) oo ![n, 1024] io).idx x))
      = fun x => B d ((Rect.unit (s := S8192x1024) oa ![n, 1024] ia).idx x) := by
  subst ho ha
  funext x
  have hx := hd (x 0).val (x 0).isLt
  refine gathOf_eq B c d _ _ ?_ ?_ ?_
  · rw [unit_idx_val]; exact hx.1
  · rw [unit_idx_val, unit_idx_val]; exact hx.2
  · rw [unit_idx_val, unit_idx_val]; rfl

variable (B : Dev nD → S8192x1024.Idx → F .bf16)

/-- A chunk sent along `x` arrives as the neighbour's gathered rows. -/
theorem sendX_eq (c : Dev nD) (k : Fin 16) (f : (main_v1 : Ref sig .tc).ty.Contents (Elt F)) :
    ∀ i ∈ (xC c k).view.set, (xC c k).view.write (Elt F) f ((bC c k).view.read (Elt F) (B c)) Finset.univ i = gathOf B (xp c) i := by
  refine write_eq_on (xC c k).view f (gathOf B (xp c)) _ ?_
  refine sliceX B (xp c) c (k0_off4_inb c k) (k0_off2_inb c k) (xOff_eq c k) (bOff_eq c k) fun r hr => ?_
  have hk := k.isLt
  have h1 := cx_lt c
  have h2 := cy_lt c
  unfold whose miss row
  rw [half_false]
  rw [cx_xp, cy_xp, xp_xp]
  refine ⟨?_, by omega⟩
  rw [if_neg (by omega), if_pos (by omega)]

/-- A chunk forwarded along `y` arrives as the neighbour's gathered rows. -/
theorem sendY_eq (c : Dev nD) (k : Fin 16) (f : (main_v1 : Ref sig .tc).ty.Contents (Elt F)) :
    ∀ i ∈ (yC c k).view.set, (yC c k).view.write (Elt F) f ((yC c k).view.read (Elt F) (gathOf B c)) Finset.univ i = gathOf B (yp c) i := by
  refine write_eq_on (yC c k).view f (gathOf B (yp c)) _ ?_
  funext x
  have hx : (x 0).val < 256 := (x 0).isLt
  have hk := k.isLt
  have h1 := cx_lt c
  have h2 := cy_lt c
  show gathOf B (yp c) ((yR c k).idx x) = gathOf B c ((yR c k).idx x)
  have h0 : ((yR c k).idx x 0).val = miss c k + (x 0).val := by rw [unit_idx_val]; exact congrArg (· + (x 0).val) (congrFun (yOff_eq c k) 0)
  unfold gathOf
  have e : whose (yp c) ((yR c k).idx x 0).val = whose c ((yR c k).idx x 0).val := by
    rw [h0]; unfold whose miss
    rw [cx_yp, cy_yp, yp_yp, if_neg (by omega), if_neg (by omega), if_neg (by omega), if_pos (by omega)]
  rw [e]

/-- A local copy of a half of the block writes its gathered rows. -/
theorem own_eq (c : Dev nD) (h : Bool) (f : (main_v1 : Ref sig .tc).ty.Contents (Elt F)) :
    ∀ i ∈ (ownDst c h).view.set, (ownDst c h).view.write (Elt F) f ((ownSrc c h).view.read (Elt F) (B c)) Finset.univ i = gathOf B c i := by
  refine write_eq_on (ownDst c h).view f (gathOf B c) _ ?_
  refine sliceX B c c (ownDst_inb c h) (ownSrc_inb c h) (ownDstOff_eq c h) (ownSrcOff_eq c h) fun r hr => ?_
  have h1 := cx_lt c
  have h2 := cy_lt c
  unfold whose
  cases h
  · rw [half_false]; exact ⟨by rw [if_pos (by omega)], by omega⟩
  · rw [half_true]; exact ⟨by rw [if_pos (by omega)], by omega⟩

/-! ## The rows partition the block, and the result -/

theorem rowsA_chunks (lo : Nat) : (Finset.univ : Finset (Fin 16)).biUnion (fun k => rowsA (lo + 256 * k.val) 256) = rowsA lo 4096 := by
  ext i
  simp only [Finset.mem_biUnion, Finset.mem_univ, true_and, mem_rowsA]
  refine ⟨fun ⟨k, h⟩ => by have := k.isLt; omega, fun h => ⟨⟨((i 0).val - lo) / 256, by omega⟩, ?_⟩⟩
  simp only; omega
theorem rowsA_chunks_disj (lo : Nat) : ∀ k ∈ (Finset.univ : Finset (Fin 16)), ∀ l ∈ (Finset.univ : Finset (Fin 16)), k ≠ l →
    Disjoint (rowsA (lo + 256 * k.val) 256) (rowsA (lo + 256 * l.val) 256) := by
  intro k _ l _ hkl
  rw [Finset.disjoint_left]
  intro i h1 h2
  rw [mem_rowsA] at h1 h2
  exact hkl (Fin.ext (by omega))
theorem rowsO_chunks (lo : Nat) : (Finset.univ : Finset (Fin 16)).biUnion (fun k => rowsO (lo + 256 * k.val) 256) = rowsO lo 4096 := by
  ext i
  simp only [Finset.mem_biUnion, Finset.mem_univ, true_and, mem_rowsO]
  refine ⟨fun ⟨k, h⟩ => by have := k.isLt; omega, fun h => ⟨⟨((i 0).val - lo) / 256, by omega⟩, ?_⟩⟩
  simp only; omega
theorem rowsO_chunks_disj (lo : Nat) : ∀ k ∈ (Finset.univ : Finset (Fin 16)), ∀ l ∈ (Finset.univ : Finset (Fin 16)), k ≠ l →
    Disjoint (rowsO (lo + 256 * k.val) 256) (rowsO (lo + 256 * l.val) 256) := by
  intro k _ l _ hkl
  rw [Finset.disjoint_left]
  intro i h1 h2
  rw [mem_rowsO] at h1 h2
  exact hkl (Fin.ext (by omega))
theorem rowsO_disj {a b n : Nat} (h : a + n ≤ b ∨ b + n ≤ a) : Disjoint (rowsO a n) (rowsO b n) := by
  rw [Finset.disjoint_left]
  intro i h1 h2
  rw [mem_rowsO] at h1 h2
  omega
theorem rowsA_halves (c : Dev nD) : rowsA (half c false) 4096 ∪ rowsA (half c true) 4096 = Finset.univ := by
  ext i
  have := (i 0).isLt
  have h2 := cy_lt c
  have h3 : (i 0).val < 8192 := this
  simp only [Finset.mem_union, mem_rowsA, Finset.mem_univ, iff_true, half_false, half_true]
  omega
theorem rowsA_halves_disj (c : Dev nD) : Disjoint (rowsA (half c false) 4096) (rowsA (half c true) 4096) := by
  have h0 := cy_lt c
  rw [Finset.disjoint_left]
  intro i h1 h2
  rw [mem_rowsA] at h1 h2
  rw [half_false] at h1
  rw [half_true] at h2
  omega

end Cert.Kernel.Flow

end
-- ==== Proof.Protocol.lean ====
/-
# Who signals whom, and what passes with it

Every device has sixty-five semaphores others or itself pay into: the barrier semaphore and, for each of the
sixteen chunks, the send and receive semaphores of the transfer along `x` and of the transfer along `y`. Each is
used for one round. Here are that round's payers and payloads, what each device owes when it starts, and the
order of levels that shows that no wait can be part of a cycle: barrier, then receipt along `x`, then receipt along `y`.
-/
module

public import proofs.«01_k».proof.Proof.Blocks
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Kernel.Flow

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the handshakes' rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

/-! ## Holding rows -/

/-- Device `c` holds rows of its cast block, of its result, of its argument, at the given contents. -/
def bPts (c : Dev nD) (S : Finset S8192x1024.Idx) (q : PosShare TreeShare) (f : S8192x1024.Idx → F .bf16) : sProp 𝕄 :=
  bM.view.loc (c : Thread nD τ) ↦[S]{q} f
def oPts (c : Dev nD) (S : Finset S16384x1024.Idx) (f : S16384x1024.Idx → F .bf16) : sProp 𝕄 :=
  oM.view.loc (c : Thread nD τ) ↦[S]{fullShare} f
def aPts (c : Dev nD) (S : Finset S8192x1024.Idx) (f : S8192x1024.Idx → F .f32) : sProp 𝕄 :=
  aM.view.loc (c : Thread nD τ) ↦[S]{fullShare} f

omit [FloatOps F] in
instance bPts_storable (c : Dev nD) (S q f) : BI.Storable (upEmb : UEmb _ 𝕄) (bPts (F := F) c S q f) := by unfold bPts; infer_instance
omit [FloatOps F] in
instance oPts_storable (c : Dev nD) (S f) : BI.Storable (upEmb : UEmb _ 𝕄) (oPts (F := F) c S f) := by unfold oPts; infer_instance

omit [FloatOps F] in
theorem bPts_congr {c : Dev nD} {S : Finset S8192x1024.Idx} {q} {f g : S8192x1024.Idx → F .bf16} (h : ∀ i ∈ S, f i = g i) :
    (bPts c S q f : sProp 𝕄) = bPts c S q g := pointsTo_congr h
omit [FloatOps F] in
theorem oPts_congr {c : Dev nD} {S : Finset S16384x1024.Idx} {f g : S16384x1024.Idx → F .bf16} (h : ∀ i ∈ S, f i = g i) :
    (oPts c S f : sProp 𝕄) = oPts c S g := pointsTo_congr h

/-- A chunk of the sent half; the chunk that comes along `x`, of either neighbour. -/
abbrev sentRows (c : Dev nD) (k : Fin 16) : Finset S8192x1024.Idx := rowsA (row c false k) 256
abbrev missRows (c : Dev nD) (k : Fin 16) : Finset S16384x1024.Idx := rowsO (miss c k) 256

/-! ## The semaphores -/

/-- The barrier; and, per chunk, send along `x` (0), receive along `x` (1), send along `y` (2), receive along `y` (3). -/
abbrev Key : Type := Unit ⊕ (Fin 4 × Fin 16)
abbrev kBar : Key := .inl ()
abbrev kXS (k : Fin 16) : Key := .inr (0, k)
abbrev kXR (k : Fin 16) : Key := .inr (1, k)
abbrev kYS (k : Fin 16) : Key := .inr (2, k)
abbrev kYR (k : Fin 16) : Key := .inr (3, k)

/-- Which semaphore a transfer's chunk completes on. -/
def xferSem : Fin 4 → Fin 16 → DmaSem sig
  | 0, k => sXS k
  | 1, k => sXR k
  | 2, k => sYS k
  | 3, k => sYR k
def csem : Key → SemLoc sig
  | .inl _ => .reg sBar
  | .inr (j, k) => .dma (xferSem j k)
abbrev cell (c : Dev nD) (κ : Key) : GSem nD τ sig := ((c : Thread nD τ), csem κ)

theorem xferSem_val (j : Fin 4) (k : Fin 16) : (xferSem j k).val = 2 + 16 * j.val + k.val := by revert j k; decide
theorem csem_inj : Function.Injective csem := by
  rintro (_ | ⟨j, k⟩) (_ | ⟨j', k'⟩) h
  · rfl
  · cases h
  · cases h
  · have h1 : (xferSem j k).val = (xferSem j' k').val := congrArg Fin.val (SemLoc.dma.inj h)
    rw [xferSem_val, xferSem_val] at h1
    have := k.isLt; have := k'.isLt
    rw [show j = j' from Fin.ext (by omega), show k = k' from Fin.ext (by omega)]

/-- Which of them a semaphore is, if any. -/
def key : SemLoc sig → Option Key := Function.partialInv csem
@[simp] theorem key_csem (κ : Key) : key (csem κ) = some κ := Function.partialInv_left csem_inj κ
theorem csem_of_key {s : SemLoc sig} {κ : Key} (h : key s = some κ) : csem κ = s := by
  have := (Function.partialInv_of_injective csem_inj κ s).mp h; exact this
theorem key_none {s : SemLoc sig} (h : ∀ κ, csem κ ≠ s) : key s = none := by
  rcases h' : key s with _ | κ
  · rfl
  · exact absurd (csem_of_key h') (h κ)

theorem cell_inj {c c' : Dev nD} {κ κ' : Key} (h : cell c κ = cell c' κ') : c = c' ∧ κ = κ' :=
  ⟨congrArg (fun g : GSem nD τ sig => g.1.1) h, csem_inj (congrArg Prod.snd h)⟩

/-- What a transfer of one chunk pays: the chunk's size in the semaphore's unit. -/
abbrev N : ℕ := (cc0_scratch0 : Ref sig .tc).dmaCredit S256x1024 .bf16
theorem N_o : (main_v1 : Ref sig .tc).dmaCredit S256x1024 .bf16 = N := rfl
theorem N_pos : 0 < N := View.dmaCredit_pos (bC 0 0).view (by decide)

/-! ## The round -/

section Schedule
variable (B : Dev nD → S8192x1024.Idx → F .bf16)

/-- What the neighbour along `x`, and the one along `y`, hand over with their ready signal: the rows this device will write
    in their result. -/
def readyX (c : Dev nD) : sProp 𝕄 := bigSep Finset.univ fun k : Fin 16 => iprop(∃ f, oPts (xp c) (missRows (xp c) k) f)
def readyY (c : Dev nD) : sProp 𝕄 := bigSep Finset.univ fun k : Fin 16 => iprop(∃ f, oPts (yp c) (missRows c k) f)
/-- What comes with a transfer: the lent rows back to the sender, the written rows to the receiver. -/
def xferPay (c : Dev nD) : Fin 4 → Fin 16 → sProp 𝕄
  | 0, k => bPts c (sentRows c k) fullShare.left (B c)
  | 1, k => oPts c (missRows c k) (gathOf B c)
  | 2, k => oPts c (missRows c k) (gathOf B c)
  | 3, k => oPts c (missRows (yp c) k) (gathOf B c)

omit [FloatOps F] in
instance readyX_storable (c : Dev nD) : BI.Storable (upEmb : UEmb _ 𝕄) (readyX (F := F) c) := by unfold readyX; infer_instance
omit [FloatOps F] in
instance readyY_storable (c : Dev nD) : BI.Storable (upEmb : UEmb _ 𝕄) (readyY (F := F) c) := by unfold readyY; infer_instance
omit [FloatOps F] in
instance xferPay_storable (c : Dev nD) (j k) : BI.Storable (upEmb : UEmb _ 𝕄) (xferPay B c j k) := by
  unfold xferPay; split <;> infer_instance

/-- Who pays which key: the barrier is paid twice (`false`: the neighbour along `x`, `true`: along `y`), the others once. -/
def payers : Option Key → Finset Bool
  | some (.inl _) => Finset.univ
  | some (.inr _) => {false}
  | none => ∅
def amounts : Option Key → ℕ
  | some (.inr _) => N
  | _ => 1
def pays (c : Dev nD) : Option Key → Bool → sProp 𝕄
  | some (.inl _), false => readyX c
  | some (.inl _), true => readyY c
  | some (.inr (j, k)), _ => xferPay B c j k
  | none, _ => iprop(emp)

def sched : Rounds.Schedule (GSem nD τ sig) Bool 𝕄 where
  duties g r := if r = 0 ∧ g.1.2 = .tc then payers (key g.2) else ∅
  unitless _ := False
  amount g _ _ := amounts (key g.2)
  payload g _ d := pays B g.1.1 (key g.2) d
  amount_pos g _ _ _ := by
    unfold amounts; split
    · exact N_pos
    · exact Nat.one_pos

omit [FloatOps F] in
instance sched_storable (g : GSem nD τ sig) (r : ℕ) (d : Bool) : BI.Storable (upEmb : UEmb _ 𝕄) ((sched B).payload g r d) := by
  show BI.Storable upEmb (pays B g.1.1 (key g.2) d)
  unfold pays; split <;> infer_instance

variable (c : Dev nD) (j : Fin 4) (k : Fin 16)

omit [FloatOps F] in
theorem duties_cell (κ : Key) : (sched B).duties (cell c κ) 0 = payers (some κ) := by
  dsimp only [sched]
  rw [if_pos ⟨rfl, rfl⟩, key_csem]
omit [FloatOps F] in
theorem duties_later (g : GSem nD τ sig) : ∀ r, 1 ≤ r → (sched B).duties g r = ∅ := fun r hr =>
  if_neg fun h => by omega
omit [FloatOps F] in
theorem amount_cell (κ : Key) (d : Bool) : (sched B).amount (cell c κ) 0 d = amounts (some κ) := by
  show amounts (key _) = _
  rw [key_csem]
omit [FloatOps F] in
theorem payload_cell (κ : Key) (d : Bool) : (sched B).payload (cell c κ) 0 d = pays B c (some κ) d := by
  show pays B c (key _) d = _
  rw [key_csem]
omit [FloatOps F] in
theorem expect_bar : (sched B).expect (cell c kBar) 0 = 2 := by
  unfold Schedule.expect Schedule.amountOf
  rw [duties_cell, Finset.sum_congr rfl fun d _ => amount_cell B c kBar d]
  rfl
omit [FloatOps F] in
theorem expect_xfer : (sched B).expect (cell c (.inr (j, k))) 0 = N := by
  unfold Schedule.expect Schedule.amountOf
  rw [duties_cell]
  exact (Finset.sum_singleton _ _).trans (amount_cell B c _ false)
omit [FloatOps F] in
theorem rest_bar : bigSep ((sched B).duties ((c : Thread nD τ), .reg sBar) 0 \ ∅) (fun d => (sched B).payload ((c : Thread nD τ), .reg sBar) 0 d)
    = iprop(readyX c ∗ readyY c) := by
  show bigSep ((sched B).duties (cell c kBar) 0 \ ∅) (fun d => (sched B).payload (cell c kBar) 0 d) = _
  rw [Finset.sdiff_empty, duties_cell, bigSep_congr fun d _ => payload_cell B c kBar d]
  exact bigSep_univ_eq_bigSepL [false, true] (by decide) (by decide) _
omit [FloatOps F] in
theorem rest_xfer : bigSep ((sched B).duties ((c : Thread nD τ), .dma (xferSem j k)) 0 \ ∅)
    (fun d => (sched B).payload ((c : Thread nD τ), .dma (xferSem j k)) 0 d) = xferPay B c j k := by
  show bigSep ((sched B).duties (cell c (.inr (j, k))) 0 \ ∅) (fun d => (sched B).payload (cell c (.inr (j, k))) 0 d) = _
  rw [Finset.sdiff_empty, duties_cell]
  exact bigSep_singleton.trans (payload_cell B c _ false)

omit [FloatOps F] in
theorem mem_bar (d : Bool) : d ∈ (sched B).duties (cell c kBar) 0 := by rw [duties_cell]; exact Finset.mem_univ _
omit [FloatOps F] in
theorem mem_xfer : false ∈ (sched B).duties (cell c (.inr (j, k))) 0 := by rw [duties_cell]; exact Finset.mem_singleton_self _
omit [FloatOps F] in
theorem ready_false : (sched B).payload ((c : Thread nD τ), .reg sBar) 0 false = readyX c := payload_cell B c kBar false
omit [FloatOps F] in
theorem ready_true : (sched B).payload ((c : Thread nD τ), .reg sBar) 0 true = readyY c := payload_cell B c kBar true

end Schedule

/-! ## What a device owes, and the levels -/

/-- The chunks from `n` on that device `c` still has to send along `x`, to forward along `y`. -/
def owesX (c : Dev nD) (n : ℕ) : CellTallies nD τ sig Unit :=
  ∑ k ∈ Finset.univ.filter (fun k : Fin 16 => n ≤ k.val), tallyAt (cell (xp c) (kXR k)) () N
def owesY (c : Dev nD) (n : ℕ) : CellTallies nD τ sig Unit :=
  ∑ k ∈ Finset.univ.filter (fun k : Fin 16 => n ≤ k.val), tallyAt (cell (yp c) (kYR k)) () N
/-- What it owes when it starts: those, and a ready signal to each neighbour. -/
def owesReady (c : Dev nD) : CellTallies nD τ sig Unit := (owesX c 0 + owesY c 0) + tallyAt (cell (yp c) kBar) () 1
def owesAll (c : Dev nD) : CellTallies nD τ sig Unit := owesReady c + tallyAt (cell (xp c) kBar) () 1

theorem filter_step (k : Fin 16) :
    Finset.univ.filter (fun l : Fin 16 => k.val ≤ l.val) = insert k (Finset.univ.filter fun l : Fin 16 => k.val + 1 ≤ l.val) := by
  ext l; simp only [Finset.mem_filter, Finset.mem_univ, true_and, Finset.mem_insert, Fin.ext_iff]; omega
theorem owesX_step (c : Dev nD) (k : Fin 16) : owesX c k.val = owesX c (k.val + 1) + tallyAt (cell (xp c) (kXR k)) () N := by
  unfold owesX
  rw [filter_step, Finset.sum_insert (by simp), add_comm]
theorem owesY_step (c : Dev nD) (k : Fin 16) : owesY c k.val = owesY c (k.val + 1) + tallyAt (cell (yp c) (kYR k)) () N := by
  unfold owesY
  rw [filter_step, Finset.sum_insert (by simp), add_comm]
theorem filter_end : (Finset.univ.filter fun l : Fin 16 => 16 ≤ l.val) = ∅ := by
  ext l; have := l.isLt; simp only [Finset.mem_filter, Finset.mem_univ, true_and, Finset.notMem_empty, iff_false]; omega
theorem owesX_end (c : Dev nD) : owesX c 16 = 0 := by unfold owesX; rw [filter_end, Finset.sum_empty]
theorem owesY_end (c : Dev nD) : owesY c 16 = 0 := by unfold owesY; rw [filter_end, Finset.sum_empty]

def L (g : GSem nD τ sig) : Finset Unit := if g.1.2 = .tc then {()} else ∅
theorem L_of_ne (g : GSem nD τ sig) (h : g.1.2 ≠ .tc) : L g = ∅ := if_neg h
theorem mem_L (c : Dev nD) (sm : SemLoc sig) : () ∈ L ((c : Thread nD τ), sm) := by
  unfold L; rw [if_pos rfl]; exact Finset.mem_singleton_self _

def level : Option Key → ℕ
  | some (.inl _) => 1
  | some (.inr (1, _)) => 2
  | some (.inr (3, _)) => 3
  | _ => 0
def lv (g : GSem nD τ sig) (_ : Unit) : ℕ := level (key g.2)
theorem lv_cell (c : Dev nD) (κ : Key) : lv (cell c κ) () = level (some κ) := by unfold lv; rw [key_csem]

/-- Everything owed is owed to some device's cell whose level is at least `b`. -/
def Above (b : ℕ) (O : CellTallies nD τ sig Unit) : Prop := ∀ g u, 0 < O g u → ∃ d κ, g = cell d κ ∧ b < level (some κ)

theorem Above.add {b : ℕ} {O O' : CellTallies nD τ sig Unit} (h : Above b O) (h' : Above b O') : Above b (O + O') := by
  intro g u hg
  rw [Pi.add_apply, Finsupp.add_apply] at hg
  rcases Nat.eq_zero_or_pos (O g u) with h0 | h0
  · exact h' g u (by omega)
  · exact h g u h0
theorem Above.tally {b n : ℕ} (d : Dev nD) (κ : Key) (h : b < level (some κ)) : Above b (tallyAt (cell d κ) () n) := by
  intro g u hg
  rw [tallyAt_apply] at hg
  by_cases hg' : g = cell d κ ∧ u = ()
  · exact ⟨d, κ, hg'.1, h⟩
  · rw [if_neg hg'] at hg; exact absurd hg (Nat.lt_irrefl 0)
theorem Above.zero (b : ℕ) : Above b 0 := fun g u hg => absurd hg (Nat.lt_irrefl 0)
theorem Above.sum {b : ℕ} {I : Type} (S : Finset I) (f : I → CellTallies nD τ sig Unit) (h : ∀ i, Above b (f i)) :
    Above b (∑ i ∈ S, f i) := by
  classical
  induction S using Finset.induction_on with
  | empty => rw [Finset.sum_empty]; exact Above.zero b
  | insert i S hi ih => rw [Finset.sum_insert hi]; exact (h i).add ih
theorem above_owesX {b : ℕ} (hb : b < 2) (c : Dev nD) (n : ℕ) : Above b (owesX c n) := Above.sum _ _ fun k => Above.tally _ _ hb
theorem above_owesY {b : ℕ} (hb : b < 3) (c : Dev nD) (n : ℕ) : Above b (owesY c n) := Above.sum _ _ fun k => Above.tally _ _ hb
theorem above_owesAll {b : ℕ} (hb : b < 1) (c : Dev nD) : Above b (owesAll c) :=
  (((above_owesX (by omega) c 0).add (above_owesY (by omega) c 0)).add (Above.tally _ _ hb)).add (Above.tally _ _ hb)

omit [FloatOps F] in
/-- A device may wait on a semaphore whose level everything it owes lies above. -/
theorem mayWait (c : Dev nD) (sm : SemLoc sig) {b : ℕ} (hb : level (key sm) = b) {O : CellTallies nD τ sig Unit} (h : Above b O) :
    (levAts L lv : sProp 𝕄) ⊢ MayWait (c : Thread nD τ) sm () O :=
  MayOwe.of_cut (L := L) (lev := lv) b (fun p hp => by rw [Finset.mem_singleton.mp hp]; exact mem_L c sm)
    (fun g u hg => by obtain ⟨d, κ, rfl, -⟩ := h g u hg; exact mem_L d _)
    (fun p hp => by rw [Finset.mem_singleton.mp hp]; exact hb.le)
    (fun g u hg => by obtain ⟨d, κ, rfl, hκ⟩ := h g u hg; exact (lv_cell d κ).symm ▸ hκ)

end Cert.Kernel.Flow

end
-- ==== Proof.Steps.lean ====
/-
# One step at a time

For each step of `Flow` what it takes and what it gives, for every device and every chunk.
-/
module

public import proofs.«01_k».proof.Proof.Protocol

@[expose] public section

noncomputable section

namespace Cert.Kernel.Flow

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

abbrev 𝒱₀ : Variants := Variants.none

/-- The program `p` on device `c` ends in `Q`. -/
abbrev Runs (c : Dev nD) (p : P F) (Q : PUnit → sProp (MT nD τ sig Unit (Elt F) ℕ UU ℕ)) : sProp (MT nD τ sig Unit (Elt F) ℕ UU ℕ) :=
  wp frame (wpE (defs₀ (F := F)) 𝒱₀ (c : Thread nD τ) none) Set.univ p Q

/-- Device `c` owes `O`, whatever it has waited for. -/
def owing (c : Dev nD) (O : CellTallies nD τ sig Unit) : sProp 𝕄 := iprop(∃ W, owes (c : Thread nD τ) O W)

variable (B : Dev nD → S8192x1024.Idx → F .bf16)

/-- Every cell's invariant, under the names `K`, and that every cell has reached its round. -/
def records (K : Dev nD × Key → ℕ) : sProp 𝕄 :=
  iprop((bigSep Finset.univ fun ck : Dev nD × Key => cellInv ER (sched B) (K ck) (cell ck.1 ck.2))
    ∗ bigSep Finset.univ fun ck : Dev nD × Key => reached ER (cell ck.1 ck.2) 0)
instance records_persistent (K : Dev nD × Key → ℕ) : BI.Persistent (records B K) := by unfold records; infer_instance

omit [FloatOps F] in
theorem inv_at (K : Dev nD × Key → ℕ) (c : Dev nD) (κ : Key) : records B K ⊢ cellInv ER (sched B) (K (c, κ)) (cell c κ) := by
  unfold records
  exact (sep_elim_left (PROP := sProp 𝕄)).trans
    (bigSep_elim (Finset.mem_univ (c, κ)) (Φ := fun ck : Dev nD × Key => (cellInv ER (sched B) (K ck) (cell ck.1 ck.2) : sProp 𝕄)))
omit [FloatOps F] in
theorem reached_at (K : Dev nD × Key → ℕ) (c : Dev nD) (κ : Key) : records B K ⊢ reached ER (cell c κ) 0 := by
  unfold records
  exact (sep_elim_right (PROP := sProp 𝕄)).trans
    (bigSep_elim (Finset.mem_univ (c, κ)) (Φ := fun ck : Dev nD × Key => (reached ER (cell ck.1 ck.2) 0 : sProp 𝕄)))

/-- The token of a duty, not yet paid; a position at the start of the round, and after it; the credit of a transfer. -/
abbrev tok (c : Dev nD) (κ : Key) (d : Bool) : sProp 𝕄 := dutyTok ER (cell c κ) 0 d
abbrev pos0 (c : Dev nD) (κ : Key) : sProp 𝕄 := atPos ER (cell c κ) 0 ∅ 0
abbrev pos1 (c : Dev nD) (κ : Key) : sProp 𝕄 := atPos ER (cell c κ) 1 ∅ 0
abbrev credN (c : Dev nD) (κ : Key) : sProp 𝕄 := cred (tallyAt (cell c κ) () N)

/-! ## A slice's elements as rows -/

omit [FloatOps F] in
theorem bC_pts (c : Dev nD) (k : Fin 16) (q : PosShare TreeShare) (f : S8192x1024.Idx → F .bf16) :
    ((bC c k).view.loc (c : Thread nD τ) ↦[(bC c k).view.set]{q} f : sProp 𝕄) = bPts c (sentRows c k) q f := by rw [bC_set]; rfl
omit [FloatOps F] in
theorem xC_pts (c d : Dev nD) (k : Fin 16) (f : S16384x1024.Idx → F .bf16) :
    ((xC c k).view.loc (d : Thread nD τ) ↦[(xC c k).view.set]{fullShare} f : sProp 𝕄) = oPts d (missRows (xp c) k) f := by rw [xC_set]; rfl
omit [FloatOps F] in
theorem yC_pts (c d : Dev nD) (k : Fin 16) (f : S16384x1024.Idx → F .bf16) :
    ((yC c k).view.loc (d : Thread nD τ) ↦[(yC c k).view.set]{fullShare} f : sProp 𝕄) = oPts d (missRows c k) f := by rw [yC_set]; rfl
omit [FloatOps F] in
theorem srcM_pts (c : Dev nD) (h : Bool) (k : Fin 16) (f : S8192x1024.Idx → F .f32) :
    ((srcM c h k).view.loc (c : Thread nD τ) ↦[(srcM c h k).view.set]{fullShare} f : sProp 𝕄) = aPts c (rowsA (row c h k) 256) f := by rw [srcM_set]; rfl
omit [FloatOps F] in
theorem st_pts (c : Dev nD) (h : Bool) (k : Fin 16) (f : S8192x1024.Idx → F .bf16) :
    (bM.view.loc (c : Thread nD τ) ↦[(bM.access (stR c h k) : View sig .tc _ _ _).set]{fullShare} f : sProp 𝕄) = bPts c (rowsA (row c h k) 256) fullShare f := by
  rw [st_set]; rfl
omit [FloatOps F] in
theorem ownSrc_pts (c : Dev nD) (h : Bool) (q : PosShare TreeShare) (f : S8192x1024.Idx → F .bf16) :
    ((ownSrc c h).view.loc (c : Thread nD τ) ↦[(ownSrc c h).view.set]{q} f : sProp 𝕄) = bPts c (rowsA (half c h) 4096) q f := by rw [ownSrc_set]; rfl
omit [FloatOps F] in
theorem ownDst_pts (c : Dev nD) (h : Bool) (f : S16384x1024.Idx → F .bf16) :
    ((ownDst c h).view.loc (c : Thread nD τ) ↦[(ownDst c h).view.set]{fullShare} f : sProp 𝕄) = oPts c (rowsO (8192 * cx c + half c h) 4096) f := by
  rw [ownDst_set]; rfl

variable (K : Dev nD × Key → ℕ) (c : Dev nD) (k : Fin 16)
variable {Q : PUnit → sProp (MT nD τ sig Unit (Elt F) ℕ UU ℕ)} {rest : P F}

/-! ## The handshake -/

theorem handshake_wp :
    iprop(records B K ∗ levAts L lv ∗ owing c (owesAll c) ∗ tok (xp c) kBar false ∗ tok (yp c) kBar true ∗ pos0 c kBar ∗ cred (tallyAt (cell c kBar) () 2)
        ∗ (bigSep Finset.univ fun k : Fin 16 => iprop(∃ f, oPts c (missRows c k) f))
        ∗ (bigSep Finset.univ fun k : Fin 16 => iprop(∃ f, oPts c (missRows (yp c) k) f)))
      ⊢ iprop(((owing c (owesX c 0 + owesY c 0) ∗ pos1 c kBar ∗ readyX c ∗ readyY c) -∗ Runs c rest Q) -∗ Runs c (handshake c rest) Q) := by
  iintro ⟨#HR, #HL, HO, Ht1, Ht2, Hp, Hc, HX, HY⟩ Hk
  unfold owing
  icases HO with ⟨%W, HO⟩
  unfold handshake
  simp only [xDev_eq c, yDev_eq c]
  iapply (Rounds.wp_signal 𝒱₀ ER (sched B) (c : Thread nD τ) none (dst := (xp c : Thread nD τ)) (κ := K (xp c, kBar))
      (d := false) (mem_bar B (xp c) false) ((amount_cell B (xp c) kBar false).trans (by decide)) () (owesReady c) rfl)
    $$ [HO Ht1 HX]
  · isplitr; · iapply (inv_at B K (xp c) kBar); iexact HR
    isplitl [HO]; · iexact HO
    isplitl [Ht1]; · iexact Ht1
    isplitl [HX]
    · rw [ready_false]
      unfold readyX; rw [xp_xp]; iexact HX
    iapply (reached_at B K (xp c) kBar); iexact HR
  iintro HO
  unfold owesReady
  iapply (Rounds.wp_signal 𝒱₀ ER (sched B) (c : Thread nD τ) none (dst := (yp c : Thread nD τ)) (κ := K (yp c, kBar))
      (d := true) (mem_bar B (yp c) true) ((amount_cell B (yp c) kBar true).trans (by decide)) () (owesX c 0 + owesY c 0) rfl)
    $$ [HO Ht2 HY]
  · isplitr; · iapply (inv_at B K (yp c) kBar); iexact HR
    isplitl [HO]; · iexact HO
    isplitl [Ht2]; · iexact Ht2
    isplitl [HY]
    · rw [ready_true]
      unfold readyY; rw [yp_yp]; iexact HY
    iapply (reached_at B K (yp c) kBar); iexact HR
  iintro HO
  iapply (Rounds.wp_wait_rest_token 𝒱₀ ER (sched B) (c : Thread nD τ) none (κ := K (c, kBar))
      (wpE_semWait_eq 𝒱₀ (c : Thread nD τ) none Set.univ) (Set.mem_univ _) () (O := owesX c 0 + owesY c 0) (W := W) (R := 0) (m := 0) (T := ∅)
      (by rw [show (sched B).expect ((c : Thread nD τ), .reg sBar) 0 = 2 from expect_bar B c]; decide)) $$ [Hc HO Hp]
  · isplitr; · iapply (inv_at B K c kBar); iexact HR
    isplitl [Hc]; · iexact Hc
    isplitl [HO]; · iexact HO
    isplitr
    · iapply (mayWait c (csem kBar) (b := 1) (by rw [key_csem]; rfl) ((above_owesX (by decide) c 0).add (above_owesY (by decide) c 0))); iexact HL
    iexact Hp
  iintro ⟨HO, Hp, -, Hpay⟩
  ihave Hpay := (Entails.of_eq (rest_bar B c)) $$ Hpay
  icases Hpay with ⟨H1, H2⟩
  iapply Hk
  isplitl [HO]; · iexists _; iexact HO
  isplitl [Hp]; · iexact Hp
  isplitl [H1]; · iexact H1
  iexact H2

/-! ## Transfers between devices -/

/-- Waiting for a chunk's transfer: what comes with it. -/
theorem wait_wp {sp sp' : Space} {s' : Shape} {e' : EltTy} (j : Fin 4) (O : CellTallies nD τ sig Unit) {b : ℕ} (hb : level (some (.inr (j, k))) = b) (hO : Above b O)
    {src : Memref sig .tc sp' s' e'} {dst : Memref sig .tc sp S256x1024 .bf16} {h1 : src.view.WordExact} {h2 : dst.view.WordExact}
    (hN : dst.view.dmaCredit = N) :
    iprop(records B K ∗ levAts L lv ∗ owing c O ∗ pos0 c (.inr (j, k)) ∗ credN c (.inr (j, k)))
      ⊢ iprop(((owing c O ∗ pos1 c (.inr (j, k)) ∗ xferPay B c j k) -∗ Runs c rest Q)
        -∗ Runs c (.op (.waitDma2 (xferSem j k) src dst h1 h2) fun _ => rest) Q) := by
  iintro ⟨#HR, #HL, HO, Hp, Hc⟩ Hk
  unfold owing
  icases HO with ⟨%W, HO⟩
  iapply (Rounds.wp_wait_rest_token 𝒱₀ ER (sched B) (c : Thread nD τ) none (κ := K (c, .inr (j, k))) (sm := .dma (xferSem j k)) (k' := N)
      (fun Kt => by rw [wpE_waitDma2_eq 𝒱₀ (c : Thread nD τ) none Set.univ, hN]) (Set.mem_univ _) () (O := O) (W := W) (R := 0) (m := 0) (T := ∅)
      (by rw [Nat.zero_add]; exact (expect_xfer B c j k).symm)) $$ [Hc HO Hp]
  · isplitr; · iapply (inv_at B K c (.inr (j, k))); iexact HR
    isplitl [Hc]; · iexact Hc
    isplitl [HO]; · iexact HO
    isplitr
    · iapply (mayWait c (csem (.inr (j, k))) (b := b) (by rw [key_csem]; exact hb) hO); iexact HL
    iexact Hp
  iintro ⟨HO, Hp, -, Hpay⟩
  ihave Hpay := (Entails.of_eq (rest_xfer B c j k)) $$ Hpay
  iapply Hk
  isplitl [HO]; · iexists _; iexact HO
  isplitl [Hp]; · iexact Hp
  iexact Hpay

theorem sendX_wp (R : CellTallies nD τ sig Unit) :
    iprop(records B K ∗ owing c (owesX c k.val + R) ∗ tok c (kXS k) false ∗ tok (xp c) (kXR k) false
        ∗ bPts c (sentRows c k) fullShare.left (B c) ∗ (∃ f, oPts (xp c) (missRows (xp c) k) f))
      ⊢ iprop(((owing c (owesX c (k.val + 1) + R) ∗ credN c (kXS k)) -∗ Runs c rest Q) -∗ Runs c (sendX c k rest) Q) := by
  suffices H : ∀ n, n = xp c → ∀ (hsc : (xC c k).view.ref.isScScratch = false) (hsrc : (bC c k).view.WordExact)
      (hdst : (xC c k).view.WordExact) (hsem : DmaTarget.Typed _ (.dma (sXR k)) (.remote (Dev.tc n : Thread nD τ) (xC c k) (.dma (sXS k)) hsc)),
      iprop(records B K ∗ owing c (owesX c k.val + R) ∗ tok c (kXS k) false ∗ tok (xp c) (kXR k) false
          ∗ bPts c (sentRows c k) fullShare.left (B c) ∗ (∃ f, oPts (xp c) (missRows (xp c) k) f))
        ⊢ iprop(((owing c (owesX c (k.val + 1) + R) ∗ credN c (kXS k)) -∗ Runs c rest Q)
          -∗ Runs c (.op (.enqueueDma (bC c k) (.remote (Dev.tc n : Thread nD τ) (xC c k) (.dma (sXS k)) hsc) (.dma (sXR k)) hsrc hdst hsem)
            fun _ => rest) Q) from
    H _ (xDevT_eq c) _ _ _ _
  rintro n rfl hsc hsrc hdst hsem
  iintro ⟨#HR, HO, Ht1, Ht2, Hs, ⟨%f, Hd⟩⟩ Hk
  unfold owing
  icases HO with ⟨%W, HO⟩
  iapply (Rounds.wp_send_pointsTo 𝒱₀ ER (sched B) (c : Thread nD τ) none (c' := (xp c : Thread nD τ)) (κ₁ := K (c, kXS k)) (κ₂ := K (xp c, kXR k))
    (r₁ := 0) (r₂ := 0) (d₁ := false) (d₂ := false) (q := fullShare.left) (fs := B c) (fd := f)
    (mem_xfer B c 0 k) (mem_xfer B (xp c) 1 k)
    () () N rfl (amount_cell B c (kXS k) false) (amount_cell B (xp c) (kXR k) false) (O₀ := owesX c k.val + R) (owesX c (k.val + 1) + R)
    (by rw [owesX_step, add_right_comm]) (W := W)
    (by
      refine BI.Entails.trans ?_ (Entails.of_eq (payload_cell B c (kXS k) false).symm)
      rw [bC_pts]; exact BI.Entails.refl _)
    (by
      refine BI.Entails.trans ?_ (Entails.of_eq (payload_cell B (xp c) (kXR k) false).symm)
      refine (Entails.of_eq (pointsTo_congr (sendX_eq B c k f))).trans ?_
      rw [xC_pts]; exact BI.Entails.refl _)) $$ [HO Ht1 Ht2 Hs Hd]
  · isplitr; · iapply (inv_at B K c (kXS k)); iexact HR
    isplitr; · iapply (inv_at B K (xp c) (kXR k)); iexact HR
    isplitl [Hs]; · rw [bC_pts]; iexact Hs
    isplitl [Hd]; · rw [xC_pts]; iexact Hd
    isplitl [HO]; · iexact HO
    isplitl [Ht1]; · iexact Ht1
    isplitr; · iapply (reached_at B K c (kXS k)); iexact HR
    isplitl [Ht2]; · iexact Ht2
    iapply (reached_at B K (xp c) (kXR k)); iexact HR
  iintro ⟨Hc, HO⟩
  iapply Hk
  isplitl [HO]; · iexists _; iexact HO
  iexact Hc

theorem sendY_wp (R : CellTallies nD τ sig Unit) :
    iprop(records B K ∗ owing c (owesY c k.val + R) ∗ tok c (kYS k) false ∗ tok (yp c) (kYR k) false
        ∗ oPts c (missRows c k) (gathOf B c) ∗ (∃ f, oPts (yp c) (missRows c k) f))
      ⊢ iprop(((owing c (owesY c (k.val + 1) + R) ∗ credN c (kYS k)) -∗ Runs c rest Q) -∗ Runs c (sendY c k rest) Q) := by
  suffices H : ∀ n, n = yp c → ∀ (hsc : (yC c k).view.ref.isScScratch = false) (hsrc : (yC c k).view.WordExact)
      (hdst : (yC c k).view.WordExact) (hsem : DmaTarget.Typed _ (.dma (sYR k)) (.remote (Dev.tc n : Thread nD τ) (yC c k) (.dma (sYS k)) hsc)),
      iprop(records B K ∗ owing c (owesY c k.val + R) ∗ tok c (kYS k) false ∗ tok (yp c) (kYR k) false
          ∗ oPts c (missRows c k) (gathOf B c) ∗ (∃ f, oPts (yp c) (missRows c k) f))
        ⊢ iprop(((owing c (owesY c (k.val + 1) + R) ∗ credN c (kYS k)) -∗ Runs c rest Q)
          -∗ Runs c (.op (.enqueueDma (yC c k) (.remote (Dev.tc n : Thread nD τ) (yC c k) (.dma (sYS k)) hsc) (.dma (sYR k)) hsrc hdst hsem)
            fun _ => rest) Q) from
    H _ (yDevT_eq c) _ _ _ _
  rintro n rfl hsc hsrc hdst hsem
  iintro ⟨#HR, HO, Ht1, Ht2, Hs, ⟨%f, Hd⟩⟩ Hk
  unfold owing
  icases HO with ⟨%W, HO⟩
  iapply (Rounds.wp_send_pointsTo 𝒱₀ ER (sched B) (c : Thread nD τ) none (c' := (yp c : Thread nD τ)) (κ₁ := K (c, kYS k)) (κ₂ := K (yp c, kYR k))
    (r₁ := 0) (r₂ := 0) (d₁ := false) (d₂ := false) (q := fullShare) (fs := gathOf B c) (fd := f)
    (mem_xfer B c 2 k) (mem_xfer B (yp c) 3 k)
    () () N rfl (amount_cell B c (kYS k) false) (amount_cell B (yp c) (kYR k) false) (O₀ := owesY c k.val + R) (owesY c (k.val + 1) + R)
    (by rw [owesY_step, add_right_comm]) (W := W)
    (by
      refine BI.Entails.trans ?_ (Entails.of_eq (payload_cell B c (kYS k) false).symm)
      rw [yC_pts]; exact BI.Entails.refl _)
    (by
      refine BI.Entails.trans ?_ (Entails.of_eq (payload_cell B (yp c) (kYR k) false).symm)
      refine (Entails.of_eq (pointsTo_congr (sendY_eq B c k f))).trans ?_
      show _ ⊢ oPts (yp c) (missRows (yp (yp c)) k) (gathOf B (yp c))
      rw [yC_pts, yp_yp])) $$ [HO Ht1 Ht2 Hs Hd]
  · isplitr; · iapply (inv_at B K c (kYS k)); iexact HR
    isplitr; · iapply (inv_at B K (yp c) (kYR k)); iexact HR
    isplitl [Hs]; · rw [yC_pts]; iexact Hs
    isplitl [Hd]; · rw [yC_pts]; iexact Hd
    isplitl [HO]; · iexact HO
    isplitl [Ht1]; · iexact Ht1
    isplitr; · iapply (reached_at B K c (kYS k)); iexact HR
    isplitl [Ht2]; · iexact Ht2
    iapply (reached_at B K (yp c) (kYR k)); iexact HR
  iintro ⟨Hc, HO⟩
  iapply Hk
  isplitl [HO]; · iexists _; iexact HO
  iexact Hc

/-! ## Staging a chunk and casting it in -/

section Stage
variable (A : Dev nD → S8192x1024.Idx → F .f32)

/-- A chunk of the argument. -/
abbrev argRows (c : Dev nD) (h : Bool) (k : Fin 16) : Finset S8192x1024.Idx := rowsA (row c h k) 256
/-- A staging slot's size in its semaphore's unit. -/
abbrev NT : ℕ := (cc0_scratch1 : Ref sig .tc).dmaCredit S256x1024 .f32

/-- A slot's elements, at contents `f`. -/
def tPts (c : Dev nD) (s : Fin 2) (f : S2x256x1024.Idx → F .f32) : sProp 𝕄 :=
  tM.view.loc (c : Thread nD τ) ↦[(slotM s).view.set]{fullShare} f
omit [FloatOps F] in
theorem slotM_set (s : Fin 2) : (slotM s).view.set = tM.view.setOn (slotR s).set :=
  (View.set_reshape _ _).trans (View.set_slice _ _)
omit [FloatOps F] in
theorem key_stag (s : Fin 2) : key (.dma (sStag s)) = none := key_none (by revert s; decide)
omit [FloatOps F] in
theorem key_own (s : Fin 2) : key (.dma (sOwn s)) = none := key_none (by revert s; decide)
/-- A slot with no copy into it under way. -/
def idle (c : Dev nD) (s : Fin 2) : sProp 𝕄 := iprop((∃ f, tPts c s f) ∗ semVal ((c : Thread nD τ), .dma (sStag s)) 0)
/-- A copy of a chunk into its slot under way: the slot will hold the chunk, and the chunk's rows come back. -/
def staged (c : Dev nD) (h : Bool) (k : Fin 16) : sProp 𝕄 :=
  iprop((∃ f, tPts c (par k) ((slotM (par k)).view.write (Elt F) f ((srcM c h k).view.read (Elt F) (A c)) Finset.univ)) ∗ aPts c (argRows c h k) (A c))
def staging (c : Dev nD) (h : Bool) (k : Fin 16) : sProp 𝕄 := Flight EC (c : Thread nD τ) (.dma (sStag (par k))) () NT (staged A c h k)

variable (h : Bool)

theorem fetch_wp :
    iprop(idle c (par k) ∗ aPts c (argRows c h k) (A c)) ⊢ iprop((staging A c h k -∗ Runs c rest Q) -∗ Runs c (fetch c h k rest) Q) := by
  unfold idle tPts
  iintro ⟨⟨⟨%f, Ht⟩, Hv⟩, Ha⟩ Hk
  unfold fetch
  iapply (Transfers.wp_dmaLocal EC 𝒱₀ (c : Thread nD τ) none (src := srcM c h k) (dst := slotM (par k)) (q := fullShare) (fs := A c) (fd := f)
    () NT rfl (View.dmaCredit_pos (slotM 0).view (by decide)) (subset_refl _)) $$ [Ht Hv Ha]
  · isplitl [Ha]; · rw [srcM_pts]; iexact Ha
    isplitl [Ht]; · iexact Ht
    iexact Hv
  iintro H
  iapply Hk
  unfold staging
  iapply (Transfers.Flight_mono EC (c : Thread nD τ) (sm := .dma (sStag (par k))) (ι := ()) (N := NT) (D' := staged A c h k) ?_) $$ H
  unfold staged tPts
  rw [srcM_pts]
  iintro ⟨H1, H2⟩
  isplitl [H1]; · iexists f; iexact H1
  iexact H2

/-- The chunk in its slot is read, cast and stored; the slot is free again. -/
theorem castIn_wp {O : CellTallies nD τ sig Unit} (hO : Above 0 O) :
    iprop(levAts L lv ∗ staging A c h k ∗ owing c O ∗ (∃ f, bPts c (rowsA (row c h k) 256) fullShare f))
      ⊢ iprop(((idle c (par k) ∗ aPts c (argRows c h k) (A c) ∗ owing c O ∗ bPts c (rowsA (row c h k) 256) fullShare (castBlk (A c))) -∗ Runs c rest Q)
        -∗ Runs c (castIn c h k rest) Q) := by
  iintro ⟨#HL, Hf, HO, ⟨%g, Hb⟩⟩ Hk
  unfold owing
  icases HO with ⟨%W, HO⟩
  unfold castIn staging
  iapply (Transfers.wp_waitLocalO EC 𝒱₀ (c : Thread nD τ) none () (N := NT) (by rfl) (O := O) (W := W)) $$ [Hf HO]
  · isplitl [Hf]; · iexact Hf
    isplitl [HO]; · iexact HO
    iapply (mayWait c (.dma (sStag (par k))) (b := 0) (by rw [key_stag]; rfl) hO); iexact HL
  unfold staged
  iintro ⟨⟨⟨%f, Ht⟩, Ha⟩, Hv, HO⟩
  unfold tPts
  iapply (wp_load 𝒱₀ (c : Thread nD τ) none Set.univ (m := tM) (Q := Q) (by rw [slotM_set])) $$ Ht
  iintro Ht
  unfold bPts
  iapply (wp_load 𝒱₀ (c : Thread nD τ) none Set.univ (m := bM) (Q := Q) (r := (stR c h k).toLoadRect)
    (by rw [← st_set, View.set_slice]; exact subset_refl _)) $$ Hb
  iintro Hb
  iapply (wp_store 𝒱₀ (c : Thread nD τ) none Set.univ (m := bM) (r := stR c h k) (Mk := Finset.univ) (Q := Q)
    (by rw [← st_set]; exact subset_refl _)) $$ Hb
  iintro Hb
  iapply Hk
  isplitl [Ht Hv]
  · unfold idle tPts
    isplitl [Ht]; · iexists _; iexact Ht
    iexact Hv
  isplitl [Ha]; · iexact Ha
  isplitl [HO]; · iexists _; iexact HO
  iapply (Entails.of_eq (pointsTo_congr (st_eq c h k (A c) f g))) $$ Hb

end Stage

/-! ## The local copies of the two halves -/

/-- A half's copy under way: it will hold its rows of the result, and the share of the cast block comes back. -/
def copied (c : Dev nD) (h : Bool) (q : PosShare TreeShare) : sProp 𝕄 :=
  iprop(oPts c (rowsO (8192 * cx c + half c h) 4096) (gathOf B c) ∗ bPts c (rowsA (half c h) 4096) q (B c))
/-- A half's size in its semaphore's unit. -/
abbrev NH : ℕ := (main_v1 : Ref sig .tc).dmaCredit S4096x1024 .bf16
def copying (c : Dev nD) (h : Bool) (q : PosShare TreeShare) : sProp 𝕄 :=
  Flight EC (c : Thread nD τ) (.dma (sOwn (ownSlot h))) () NH (copied B c h q)

theorem copyOwn_wp (h : Bool) (q : PosShare TreeShare) :
    iprop(semVal ((c : Thread nD τ), .dma (sOwn (ownSlot h))) 0 ∗ (∃ f, oPts c (rowsO (8192 * cx c + half c h) 4096) f)
        ∗ bPts c (rowsA (half c h) 4096) q (B c))
      ⊢ iprop((copying B c h q -∗ Runs c rest Q) -∗ Runs c (copyOwn c h rest) Q) := by
  iintro ⟨Hv, ⟨%f, Hd⟩, Hs⟩ Hk
  unfold copyOwn
  iapply (Transfers.wp_dmaLocal EC 𝒱₀ (c : Thread nD τ) none (src := ownSrc c h) (dst := ownDst c h) (q := q) (fs := B c) (fd := f)
    () NH rfl (View.dmaCredit_pos (ownDst c h).view (by decide)) (subset_refl _)) $$ [Hv Hd Hs]
  · isplitl [Hs]; · rw [ownSrc_pts]; iexact Hs
    isplitl [Hd]; · rw [ownDst_pts]; iexact Hd
    iexact Hv
  iintro H
  iapply Hk
  unfold copying
  iapply (Transfers.Flight_mono EC (c : Thread nD τ) (sm := .dma (sOwn (ownSlot h))) (ι := ()) (N := NH) (D' := copied B c h q) ?_) $$ H
  unfold copied
  rw [ownSrc_pts, ownDst_pts, oPts_congr (by rw [← ownDst_set]; exact own_eq B c h f)]

theorem waitOwn_wp (h : Bool) (q : PosShare TreeShare) :
    iprop(copying B c h q ∗ owing c 0)
      ⊢ iprop(((copied B c h q ∗ semVal ((c : Thread nD τ), .dma (sOwn (ownSlot h))) 0 ∗ owing c 0) -∗ Runs c rest Q)
        -∗ Runs c (waitOwn c h rest) Q) := by
  iintro ⟨Hf, HO⟩ Hk
  unfold owing
  icases HO with ⟨%W, HO⟩
  unfold waitOwn copying
  iapply (Transfers.wp_waitLocalO EC 𝒱₀ (c : Thread nD τ) none () (N := NH) (by rfl) (O := 0) (W := W)) $$ [Hf HO]
  · isplitl [Hf]; · iexact Hf
    isplitl [HO]; · iexact HO
    rw [MayWait_zero]; iempintro
  iintro ⟨H1, H2, HO⟩
  iapply Hk
  isplitl [H1]; · iexact H1
  isplitl [H2]; · iexact H2
  iexists _; iexact HO

/-! ## Sixteen steps -/

/-- A state kept by every step is kept by the sixteen. -/
theorem each_wp (St : ℕ → sProp (MT nD τ sig Unit (Elt F) ℕ UU ℕ)) (step : Fin 16 → P F → P F)
    (h : ∀ (k : Fin 16) (rest : P F), iprop(St k.val ∗ (St (k.val + 1) -∗ Runs c rest Q)) ⊢ Runs c (step k rest) Q) :
    iprop(St 0 ∗ (St 16 -∗ Runs c rest Q)) ⊢ Runs c (each step rest) Q := by
  have one : ∀ (k : Fin 16) (q : P F), (iprop(St (k.val + 1)) ⊢ iprop((St 16 -∗ Runs c rest Q) -∗ Runs c q Q)) →
      iprop(St k.val) ⊢ iprop((St 16 -∗ Runs c rest Q) -∗ Runs c (step k q) Q) := by
    intro k q hq
    iintro H Hk
    iapply (h k q)
    isplitl [H]; · iexact H
    iintro H
    iapply hq $$ H
    iexact Hk
  have all : iprop(St (0 : Fin 16).val) ⊢ iprop((St 16 -∗ Runs c rest Q) -∗ Runs c (each step rest) Q) := by
    unfold each
    refine one 0 _ ?_; refine one 1 _ ?_; refine one 2 _ ?_; refine one 3 _ ?_
    refine one 4 _ ?_; refine one 5 _ ?_; refine one 6 _ ?_; refine one 7 _ ?_
    refine one 8 _ ?_; refine one 9 _ ?_; refine one 10 _ ?_; refine one 11 _ ?_
    refine one 12 _ ?_; refine one 13 _ ?_; refine one 14 _ ?_; refine one 15 _ ?_
    show iprop(St 16) ⊢ _
    iintro H Hk
    iapply Hk $$ H
  iintro ⟨H, Hk⟩
  iapply (show iprop(St 0) ⊢ _ from all) $$ H
  iexact Hk

end Cert.Kernel.Flow

end
-- ==== Proof.Splits.lean ====
/-
# Buffers, halves and chunks

The argument and the cast block are their two halves, each half its sixteen chunks. The result is the two halves
this device writes itself, the sixteen chunks its neighbour along `x` sends and the sixteen chunks its neighbour
along `y` forwards.
-/
module

public import proofs.«01_k».proof.Proof.Protocol

@[expose] public section

noncomputable section

namespace Cert.Kernel.Flow

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type}

local notation "𝕄" => MT nD τ sig Unit (Elt F) ℕ UU ℕ

variable (c : Dev nD)

/-! ## The argument and the cast block -/

theorem aPts_chunks (h : Bool) (f : S8192x1024.Idx → F .f32) :
    (aPts c (rowsA (half c h) 4096) f : sProp 𝕄) = bigSep Finset.univ fun k : Fin 16 => aPts c (rowsA (row c h k) 256) f := by
  unfold aPts
  rw [← rowsA_chunks]
  exact pointsTo_biUnion _ _ (rowsA_chunks_disj _)
theorem bPts_chunks (h : Bool) (q : PosShare TreeShare) (f : S8192x1024.Idx → F .bf16) :
    (bPts c (rowsA (half c h) 4096) q f : sProp 𝕄) = bigSep Finset.univ fun k : Fin 16 => bPts c (rowsA (row c h k) 256) q f := by
  unfold bPts
  rw [← rowsA_chunks]
  exact pointsTo_biUnion _ _ (rowsA_chunks_disj _)

theorem aPts_halves (f : S8192x1024.Idx → F .f32) :
    (aPts c Finset.univ f : sProp 𝕄) = iprop((bigSep Finset.univ fun k : Fin 16 => aPts c (rowsA (row c false k) 256) f)
      ∗ bigSep Finset.univ fun k : Fin 16 => aPts c (rowsA (row c true k) 256) f) := by
  rw [← aPts_chunks, ← aPts_chunks]
  unfold aPts
  rw [← rowsA_halves c]
  exact Entails.antisymm (pointsTo_union (rowsA_halves_disj c)).1 (pointsTo_union (rowsA_halves_disj c)).2
theorem bPts_halves (q : PosShare TreeShare) (f : S8192x1024.Idx → F .bf16) :
    (bPts c Finset.univ q f : sProp 𝕄) = iprop(bPts c (rowsA (half c false) 4096) q f ∗ bPts c (rowsA (half c true) 4096) q f) := by
  unfold bPts
  rw [← rowsA_halves c]
  exact Entails.antisymm (pointsTo_union (rowsA_halves_disj c)).1 (pointsTo_union (rowsA_halves_disj c)).2

/-- The two shares a sent chunk is held at while it is under way. -/
theorem bPts_share (S : Finset S8192x1024.Idx) (f : S8192x1024.Idx → F .bf16) :
    (bPts c S fullShare f : sProp 𝕄) = iprop(bPts c S fullShare.left f ∗ bPts c S fullShare.right f) := by
  unfold bPts
  exact Entails.antisymm (pointsTo_share (PosShare.mem_left_op_right fullShare)).1 (pointsTo_share (PosShare.mem_left_op_right fullShare)).2

theorem bAny_split :
    (iprop(∃ f, bPts c Finset.univ fullShare f) : sProp 𝕄)
      ⊢ iprop((bigSep Finset.univ fun k : Fin 16 => iprop(∃ f, bPts c (rowsA (row c false k) 256) fullShare f))
        ∗ bigSep Finset.univ fun k : Fin 16 => iprop(∃ f, bPts c (rowsA (row c true k) 256) fullShare f)) := by
  have any : ∀ h (f : S8192x1024.Idx → F .bf16), (bigSep Finset.univ fun k : Fin 16 => bPts c (rowsA (row c h k) 256) fullShare f : sProp 𝕄)
      ⊢ bigSep Finset.univ fun k : Fin 16 => iprop(∃ f, bPts c (rowsA (row c h k) 256) fullShare f) := by
    intro h f
    refine bigSep_mono fun k _ => ?_
    exact exists_intro (PROP := sProp 𝕄) f
  iintro ⟨%f, H⟩
  ihave H := (show (bPts c Finset.univ fullShare f : sProp 𝕄) ⊢ _ from
    Entails.of_eq ((bPts_halves c fullShare f).trans (by rw [bPts_chunks, bPts_chunks]))) $$ H
  icases H with ⟨H1, H2⟩
  isplitl [H1]
  · iapply (any false f) $$ H1
  iapply (any true f) $$ H2

/-! ## The result -/

theorem oPts_chunks (d : Dev nD) (f : S16384x1024.Idx → F .bf16) :
    (oPts c (rowsO (miss d 0) 4096) f : sProp 𝕄) = bigSep Finset.univ fun k : Fin 16 => oPts c (missRows d k) f := by
  unfold oPts
  rw [← rowsO_chunks]
  exact pointsTo_biUnion _ _ (rowsO_chunks_disj _)

theorem oPts_union {S T : Finset S16384x1024.Idx} (h : Disjoint S T) (f : S16384x1024.Idx → F .bf16) :
    (oPts c (S ∪ T) f : sProp 𝕄) = iprop(oPts c S f ∗ oPts c T f) :=
  Entails.antisymm (pointsTo_union h).1 (pointsTo_union h).2

theorem rowsO_parts : (rowsO (8192 * cx c + half c false) 4096 ∪ rowsO (8192 * cx c + half c true) 4096)
    ∪ (rowsO (miss c 0) 4096 ∪ rowsO (miss (yp c) 0) 4096) = Finset.univ := by
  ext i
  have h3 : (i 0).val < 16384 := (i 0).isLt
  have h1 := cx_lt c
  have h2 := cy_lt c
  simp only [Finset.mem_union, mem_rowsO, Finset.mem_univ, iff_true, half_false, half_true, miss, cx_yp, cy_yp, Fin.val_zero]
  omega
theorem own_disj : Disjoint (rowsO (8192 * cx c + half c false) 4096) (rowsO (8192 * cx c + half c true) 4096) := by
  have h2 := cy_lt c
  refine rowsO_disj ?_
  rw [half_false, half_true]; omega
theorem miss_disj : Disjoint (rowsO (miss c 0) 4096) (rowsO (miss (yp c) 0) 4096) := by
  have h2 := cy_lt c
  refine rowsO_disj ?_
  simp only [miss, cx_yp, cy_yp, Fin.val_zero]; omega
theorem parts_disj : Disjoint (rowsO (8192 * cx c + half c false) 4096 ∪ rowsO (8192 * cx c + half c true) 4096)
    (rowsO (miss c 0) 4096 ∪ rowsO (miss (yp c) 0) 4096) := by
  have h1 := cx_lt c
  have h2 := cy_lt c
  rw [Finset.disjoint_union_left, Finset.disjoint_union_right, Finset.disjoint_union_right]
  refine ⟨⟨rowsO_disj ?_, rowsO_disj ?_⟩, rowsO_disj ?_, rowsO_disj ?_⟩ <;>
    simp only [half_false, half_true, miss, cx_yp, cy_yp, Fin.val_zero] <;> omega

theorem oPts_parts (f : S16384x1024.Idx → F .bf16) :
    (oPts c Finset.univ f : sProp 𝕄) = iprop((oPts c (rowsO (8192 * cx c + half c false) 4096) f ∗ oPts c (rowsO (8192 * cx c + half c true) 4096) f)
      ∗ (bigSep Finset.univ fun k : Fin 16 => oPts c (missRows c k) f)
      ∗ bigSep Finset.univ fun k : Fin 16 => oPts c (missRows (yp c) k) f) := by
  rw [← rowsO_parts c, oPts_union c (parts_disj c), oPts_union c (own_disj c), oPts_union c (miss_disj c), oPts_chunks, oPts_chunks]

theorem oAny_split :
    (iprop(∃ f, oPts c Finset.univ f) : sProp 𝕄)
      ⊢ iprop((∃ f, oPts c (rowsO (8192 * cx c + half c false) 4096) f) ∗ (∃ f, oPts c (rowsO (8192 * cx c + half c true) 4096) f)
        ∗ (bigSep Finset.univ fun k : Fin 16 => iprop(∃ f, oPts c (missRows c k) f))
        ∗ bigSep Finset.univ fun k : Fin 16 => iprop(∃ f, oPts c (missRows (yp c) k) f)) := by
  have any : ∀ d (f : S16384x1024.Idx → F .bf16), (bigSep Finset.univ fun k : Fin 16 => oPts c (missRows d k) f : sProp 𝕄)
      ⊢ bigSep Finset.univ fun k : Fin 16 => iprop(∃ f, oPts c (missRows d k) f) := by
    intro d f
    refine bigSep_mono fun k _ => ?_
    exact exists_intro (PROP := sProp 𝕄) f
  iintro ⟨%f, H⟩
  ihave H := (Entails.of_eq (oPts_parts c f)) $$ H
  icases H with ⟨⟨H1, H2⟩, H3, H4⟩
  isplitl [H1]; · iexists f; iexact H1
  isplitl [H2]; · iexists f; iexact H2
  isplitl [H3]
  · iapply (any c f) $$ H3
  iapply (any (yp c) f) $$ H4

/-! ## The cells of a device, one by one -/

theorem bigSep_keys (Φ : Key → sProp 𝕄) :
    bigSep Finset.univ Φ = iprop(Φ kBar ∗ (bigSep Finset.univ fun k => Φ (kXS k)) ∗ (bigSep Finset.univ fun k => Φ (kXR k))
      ∗ (bigSep Finset.univ fun k => Φ (kYS k)) ∗ bigSep Finset.univ fun k => Φ (kYR k)) := by
  have four : ∀ Ψ : Fin 4 → sProp 𝕄, bigSep Finset.univ Ψ = iprop(Ψ 0 ∗ Ψ 1 ∗ Ψ 2 ∗ Ψ 3) := fun Ψ =>
    bigSep_univ_eq_bigSepL [0, 1, 2, 3] (by decide) (by decide) Ψ
  rw [show (bigSep Finset.univ Φ : sProp 𝕄) = iprop(bigSep Finset.univ (fun a : Unit => Φ (.inl a)) ∗ bigSep Finset.univ (fun b : Fin 4 × Fin 16 => Φ (.inr b)))
      from bigSep_univ_sum Φ, bigSep_univ_prod, four, show (Finset.univ : Finset Unit) = {()} from rfl, bigSep_singleton]

end Cert.Kernel.Flow

end
-- ==== Proof.Body.lean ====
/-
# The body's run on one device

The steps put together: from the tokens, positions and credits of the protocol and the buffers at any contents, the
body ends with the result gathered, every semaphore at zero and nothing owed.
-/
module

public import proofs.«01_k».proof.Proof.Steps
public import proofs.«01_k».proof.Proof.Splits

@[expose] public section

noncomputable section

namespace Cert.Kernel.Flow

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD) (A : Dev nD → S8192x1024.Idx → F .f32) (K : Dev nD × Key → ℕ)
variable {Q : PUnit → sProp (MT nD τ sig Unit (Elt F) ℕ UU ℕ)} {rest : P F}

omit [FloatOps F] in
/-- One member of a family, taken out. -/
theorem take_of {S : Finset (Fin 16)} {i : Fin 16} (hi : i ∈ S) {Φ : Fin 16 → sProp (MT nD τ sig Unit (Elt F) ℕ UU ℕ)} :
    (bigSep S Φ : sProp 𝕄) = iprop(Φ i ∗ bigSep (S.erase i) Φ) := bigSep_erase hi

/-! ## A loop over the chunks: what each step takes and what it leaves -/

/-- Chunks before `n` as the steps leave them, the others as the steps find them. -/
def family (X Y : Fin 16 → sProp (MT nD τ sig Unit (Elt F) ℕ UU ℕ)) (n : ℕ) (j : Fin 16) : sProp 𝕄 := if j.val < n then Y j else X j

omit [FloatOps F] in
theorem family_take (X Y : Fin 16 → sProp (MT nD τ sig Unit (Elt F) ℕ UU ℕ)) (k : Fin 16) :
    (bigSep Finset.univ (family X Y k.val) : sProp 𝕄) = iprop(X k ∗ bigSep (Finset.univ.erase k) (family X Y k.val)) := by
  rw [bigSep_univ_at (family X Y k.val) k]
  congr 1
  exact if_neg (Nat.lt_irrefl _)
omit [FloatOps F] in
theorem family_put (X Y : Fin 16 → sProp (MT nD τ sig Unit (Elt F) ℕ UU ℕ)) (k : Fin 16) :
    (bigSep Finset.univ (family X Y (k.val + 1)) : sProp 𝕄) = iprop(Y k ∗ bigSep (Finset.univ.erase k) (family X Y k.val)) := by
  rw [bigSep_univ_at (family X Y (k.val + 1)) k, show family X Y (k.val + 1) k = Y k from if_pos (Nat.lt_succ_self _)]
  congr 1
  refine bigSep_congr fun j hj => ?_
  have hne : j.val ≠ k.val := fun h => (Finset.mem_erase.mp hj).1 (Fin.ext h)
  unfold family
  by_cases h : j.val < k.val
  · rw [if_pos h, if_pos (by omega)]
  · rw [if_neg h, if_neg (by omega)]
omit [FloatOps F] in
theorem family_all (X Y : Fin 16 → sProp (MT nD τ sig Unit (Elt F) ℕ UU ℕ)) :
    (bigSep Finset.univ (family X Y 16) : sProp 𝕄) = bigSep Finset.univ Y :=
  bigSep_congr fun j _ => if_pos j.isLt
omit [FloatOps F] in
theorem family_none (X Y : Fin 16 → sProp (MT nD τ sig Unit (Elt F) ℕ UU ℕ)) :
    (bigSep Finset.univ (family X Y 0) : sProp 𝕄) = bigSep Finset.univ X :=
  bigSep_congr fun j _ => if_neg (Nat.not_lt_zero _)

theorem loop_wp (Fr : ℕ → sProp (MT nD τ sig Unit (Elt F) ℕ UU ℕ)) (X Y : Fin 16 → sProp (MT nD τ sig Unit (Elt F) ℕ UU ℕ)) (step : Fin 16 → P F → P F)
    (h : ∀ (k : Fin 16) (rest : P F), iprop(Fr k.val ∗ X k) ⊢ iprop(((Fr (k.val + 1) ∗ Y k) -∗ Runs c rest Q) -∗ Runs c (step k rest) Q)) :
    iprop(Fr 0 ∗ bigSep Finset.univ X) ⊢ iprop(((Fr 16 ∗ bigSep Finset.univ Y) -∗ Runs c rest Q) -∗ Runs c (each step rest) Q) := by
  have run := each_wp c (Q := Q) (rest := rest) (fun n => iprop(Fr n ∗ bigSep Finset.univ (family X Y n))) step (by
    intro k rest
    iintro ⟨⟨HF, HX⟩, Hk⟩
    ihave HX := (Entails.of_eq (family_take X Y k)) $$ HX
    icases HX with ⟨H1, H2⟩
    iapply (h k rest) $$ [HF H1]
    · isplitl [HF]; · iexact HF
      iexact H1
    iintro ⟨HF, HY⟩
    iapply Hk
    isplitl [HF]; · iexact HF
    iapply (Entails.of_eq (family_put X Y k).symm)
    isplitl [HY]; · iexact HY
    iexact H2)
  rw [family_none, family_all] at run
  iintro H Hk
  iapply run
  isplitl [H]; · iexact H
  iexact Hk

/-! ## Staging, chunk after chunk -/

/-- The slot of chunk number `n`. -/
def slotOf (n : ℕ) : Fin 2 := ⟨n % 2, Nat.mod_lt _ (by decide)⟩
theorem slotOf_add_two (n : ℕ) : slotOf (n + 2) = slotOf n := Fin.ext (Nat.add_mod_right n 2)

/-- The chunks of a half of the argument, those in `S`. -/
abbrev args (h : Bool) (S : Finset (Fin 16)) : sProp 𝕄 := bigSep S fun j => aPts c (argRows c h j) (A c)

/-- Before step `n`: chunk `n` on its way, the other slot free. -/
def stageAt (h : Bool) (n : ℕ) : sProp 𝕄 :=
  if hn : n < 16 then iprop(staging A c h ⟨n, hn⟩ ∗ idle c (slotOf (n + 1)) ∗ args c A h (Finset.univ.erase ⟨n, hn⟩))
  else iprop(idle c (slotOf n) ∗ idle c (slotOf (n + 1)) ∗ args c A h Finset.univ)

theorem stage_at (h : Bool) (k : Fin 16) :
    (stageAt c A h k.val : sProp 𝕄) = iprop(staging A c h k ∗ idle c (slotOf (k.val + 1)) ∗ args c A h (Finset.univ.erase k)) := dif_pos k.isLt
theorem stage_end (h : Bool) :
    (stageAt c A h 16 : sProp 𝕄) = iprop(idle c 0 ∗ idle c 1 ∗ args c A h Finset.univ) := dif_neg (by decide)

theorem stage_start (h : Bool) :
    iprop(idle c 0 ∗ idle c 1 ∗ args c A h Finset.univ) ⊢ iprop((stageAt c A h 0 -∗ Runs c rest Q) -∗ Runs c (fetch c h 0 rest) Q) := by
  iintro ⟨H0, H1, Ha⟩ Hk
  ihave Ha := (Entails.of_eq (bigSep_univ_at (fun j => (aPts c (argRows c h j) (A c) : sProp 𝕄)) 0)) $$ Ha
  icases Ha with ⟨Ha, Hr⟩
  iapply (fetch_wp c 0 A h) $$ [H0 Ha]
  · isplitl [H0]; · iapply (Entails.of_eq (show (idle c 0 : sProp 𝕄) = idle c (par 0) from rfl)) $$ H0
    iexact Ha
  iintro Hs
  iapply Hk
  iapply (Entails.of_eq (stage_at c A h 0).symm)
  isplitl [Hs]; · iexact Hs
  isplitl [H1]; · iapply (Entails.of_eq (show (idle c 1 : sProp 𝕄) = idle c (slotOf ((0 : Fin 16).val + 1)) from rfl)) $$ H1
  iexact Hr

/-- The next chunk is sent on its way and chunk `k` is cast. -/
theorem stage_step (h : Bool) (k : Fin 16) {O : CellTallies nD τ sig Unit} (hO : Above 0 O) :
    iprop(levAts L lv ∗ stageAt c A h k.val ∗ owing c O ∗ (∃ f, bPts c (rowsA (row c h k) 256) fullShare f))
      ⊢ iprop(((stageAt c A h (k.val + 1) ∗ owing c O ∗ bPts c (rowsA (row c h k) 256) fullShare (castBlk (A c))) -∗ Runs c rest Q)
        -∗ Runs c (fetchNext c h k (castIn c h k rest)) Q) := by
  have hpar : par k = slotOf (k.val + 2) := (slotOf_add_two k.val).symm
  rw [stage_at]
  unfold fetchNext
  by_cases hk : k.val + 1 < 16
  · have hne : nxt k hk ≠ k := fun e => Nat.succ_ne_self k.val (congrArg Fin.val e)
    rw [dif_pos hk, show (args c A h (Finset.univ.erase k) : sProp 𝕄)
        = iprop(aPts c (argRows c h (nxt k hk)) (A c) ∗ args c A h ((Finset.univ.erase (nxt k hk)).erase k)) from
      (take_of (Finset.mem_erase.mpr ⟨hne, Finset.mem_univ _⟩)).trans (by rw [Finset.erase_right_comm])]
    iintro ⟨#HL, ⟨Hs, Hi, Ha, Hr⟩, HO, Hb⟩ Hk
    iapply (fetch_wp c (nxt k hk) A h) $$ [Hi Ha]
    · isplitl [Hi]; · iapply (Entails.of_eq (show (idle c (slotOf (k.val + 1)) : sProp 𝕄) = idle c (par (nxt k hk)) from rfl)) $$ Hi
      iexact Ha
    iintro Hs'
    iapply (castIn_wp c k A h hO) $$ [Hs HO Hb]
    · isplitr; · iexact HL
      isplitl [Hs]; · iexact Hs
      isplitl [HO]; · iexact HO
      iexact Hb
    iintro ⟨Hi, Ha, HO, Hb⟩
    iapply Hk
    isplitl [Hs' Hi Ha Hr]
    · iapply (Entails.of_eq (stage_at c A h (nxt k hk)).symm)
      isplitl [Hs']; · iexact Hs'
      isplitl [Hi]; · iapply (Entails.of_eq (congrArg (fun s => (idle c s : sProp 𝕄)) hpar)) $$ Hi
      iapply (Entails.of_eq (take_of (Φ := fun j => (aPts c (argRows c h j) (A c) : sProp 𝕄))
        (Finset.mem_erase.mpr ⟨hne.symm, Finset.mem_univ k⟩)).symm)
      isplitl [Ha]; · iexact Ha
      iexact Hr
    isplitl [HO]; · iexact HO
    iexact Hb
  · rw [dif_neg hk]
    iintro ⟨#HL, ⟨Hs, Hi', Hr⟩, HO, Hb⟩ Hk
    iapply (castIn_wp c k A h hO) $$ [Hs HO Hb]
    · isplitr; · iexact HL
      isplitl [Hs]; · iexact Hs
      isplitl [HO]; · iexact HO
      iexact Hb
    iintro ⟨Hi, Ha, HO, Hb⟩
    iapply Hk
    isplitl [Hi' Hi Ha Hr]
    · iapply (Entails.of_eq (show (stageAt c A h (k.val + 1) : sProp 𝕄) = _ from dif_neg hk).symm)
      isplitl [Hi']; · iexact Hi'
      isplitl [Hi]; · iapply (Entails.of_eq (congrArg (fun s => (idle c s : sProp 𝕄)) hpar)) $$ Hi
      iapply (Entails.of_eq (bigSep_univ_at (fun j => (aPts c (argRows c h j) (A c) : sProp 𝕄)) k).symm)
      isplitl [Ha]; · iexact Ha
      iexact Hr
    isplitl [HO]; · iexact HO
    iexact Hb

/-! ## The four loops -/

/-- The blocks of all devices, cast. -/
abbrev blks : Dev nD → S8192x1024.Idx → F .bf16 := fun d => castBlk (A d)

/-- The first loop: a chunk of the sent half is cast and sent to the neighbour along `x`. -/
def frame1 (n : ℕ) : sProp 𝕄 := iprop(records (blks A) K ∗ levAts L lv ∗ stageAt c A false n ∗ owing c (owesX c n + owesY c 0))
def pre1 (k : Fin 16) : sProp 𝕄 :=
  iprop((∃ f, bPts c (rowsA (row c false k) 256) fullShare f) ∗ tok c (kXS k) false ∗ tok (xp c) (kXR k) false ∗ ∃ f, oPts (xp c) (missRows (xp c) k) f)
def post1 (k : Fin 16) : sProp 𝕄 := iprop(bPts c (rowsA (row c false k) 256) fullShare.right (blks A c) ∗ credN c (kXS k))

theorem phase1_wp (k : Fin 16) (rest : P F) :
    iprop(frame1 c A K k.val ∗ pre1 c k) ⊢ iprop(((frame1 c A K (k.val + 1) ∗ post1 c A k) -∗ Runs c rest Q) -∗ Runs c (phase1 c k rest) Q) := by
  unfold frame1 pre1 post1 phase1
  iintro ⟨⟨#HR, #HL, Hs, HO⟩, Hb, Ht1, Ht2, Ho⟩ Hk
  iapply (stage_step c A false k ((above_owesX (by decide) c _).add (above_owesY (by decide) c _))) $$ [Hs HO Hb]
  · isplitr; · iexact HL
    isplitl [Hs]; · iexact Hs
    isplitl [HO]; · iexact HO
    iexact Hb
  iintro ⟨Hs, HO, Hb⟩
  ihave Hb := (Entails.of_eq (bPts_share c _ _)) $$ Hb
  icases Hb with ⟨Hl, Hr⟩
  iapply (sendX_wp (blks A) K c k (owesY c 0)) $$ [HO Ht1 Ht2 Hl Ho]
  · isplitr; · iexact HR
    isplitl [HO]; · iexact HO
    isplitl [Ht1]; · iexact Ht1
    isplitl [Ht2]; · iexact Ht2
    isplitl [Hl]; · iexact Hl
    iexact Ho
  iintro ⟨HO, Hc⟩
  iapply Hk
  isplitl [Hs HO]
  · isplitr; · iexact HR
    isplitr; · iexact HL
    isplitl [Hs]; · iexact Hs
    iexact HO
  isplitl [Hr]; · iexact Hr
  iexact Hc

/-- The second loop: a chunk arrives from the neighbour along `x` and is forwarded, a chunk of the other half is cast. -/
def frame2 (n : ℕ) : sProp 𝕄 := iprop(records (blks A) K ∗ levAts L lv ∗ stageAt c A true n ∗ owing c (owesY c n + 0))
def pre2 (k : Fin 16) : sProp 𝕄 :=
  iprop((∃ f, bPts c (rowsA (row c true k) 256) fullShare f) ∗ pos0 c (kXR k) ∗ credN c (kXR k)
    ∗ tok c (kYS k) false ∗ tok (yp c) (kYR k) false ∗ ∃ f, oPts (yp c) (missRows c k) f)
def post2 (k : Fin 16) : sProp 𝕄 :=
  iprop(bPts c (rowsA (row c true k) 256) fullShare (blks A c) ∗ pos1 c (kXR k) ∗ credN c (kYS k))

theorem phase2_wp (k : Fin 16) (rest : P F) :
    iprop(frame2 c A K k.val ∗ pre2 c k) ⊢ iprop(((frame2 c A K (k.val + 1) ∗ post2 c A k) -∗ Runs c rest Q) -∗ Runs c (phase2 c k rest) Q) := by
  unfold frame2 pre2 post2 phase2
  iintro ⟨⟨#HR, #HL, Hs, HO⟩, Hb, Hp, Hc, Ht1, Ht2, Ho⟩ Hk
  unfold recvX
  iapply (wait_wp (blks A) K c k 1 (b := 2) (owesY c k.val + 0) rfl ((above_owesY (by decide) c _).add (Above.zero _)) rfl) $$ [HO Hp Hc]
  · isplitr; · iexact HR
    isplitr; · iexact HL
    isplitl [HO]; · iexact HO
    isplitl [Hp]; · iexact Hp
    iexact Hc
  iintro ⟨HO, Hp, Hx⟩
  iapply (sendY_wp (blks A) K c k 0) $$ [HO Ht1 Ht2 Hx Ho]
  · isplitr; · iexact HR
    isplitl [HO]; · iexact HO
    isplitl [Ht1]; · iexact Ht1
    isplitl [Ht2]; · iexact Ht2
    isplitl [Hx]; · iapply (Entails.of_eq (show xferPay (blks A) c 1 k = (oPts c (missRows c k) (gathOf (blks A) c) : sProp 𝕄) from rfl)) $$ Hx
    iexact Ho
  iintro ⟨HO, Hc⟩
  iapply (stage_step c A true k ((above_owesY (by decide) c _).add (Above.zero _))) $$ [Hs HO Hb]
  · isplitr; · iexact HL
    isplitl [Hs]; · iexact Hs
    isplitl [HO]; · iexact HO
    iexact Hb
  iintro ⟨Hs, HO, Hb⟩
  iapply Hk
  isplitl [Hs HO]
  · isplitr; · iexact HR
    isplitr; · iexact HL
    isplitl [Hs]; · iexact Hs
    iexact HO
  isplitl [Hb]; · iexact Hb
  isplitl [Hp]; · iexact Hp
  iexact Hc

/-- The third loop: the chunks the neighbour along `y` forwards arrive. -/
def frame3 (_ : ℕ) : sProp 𝕄 := iprop(records (blks A) K ∗ levAts L lv ∗ owing c 0)
def pre3 (k : Fin 16) : sProp 𝕄 := iprop(pos0 c (kYR k) ∗ credN c (kYR k))
def post3 (k : Fin 16) : sProp 𝕄 := iprop(pos1 c (kYR k) ∗ oPts c (missRows (yp c) k) (gathOf (blks A) c))

theorem recvY_wp (k : Fin 16) (rest : P F) :
    iprop(frame3 c A K k.val ∗ pre3 c k) ⊢ iprop(((frame3 c A K (k.val + 1) ∗ post3 c A k) -∗ Runs c rest Q) -∗ Runs c (recvY c k rest) Q) := by
  unfold frame3 pre3 post3 recvY
  iintro ⟨⟨#HR, #HL, HO⟩, Hp, Hc⟩ Hk
  iapply (wait_wp (blks A) K c k 3 0 rfl (Above.zero _) rfl) $$ [HO Hp Hc]
  · isplitr; · iexact HR
    isplitr; · iexact HL
    isplitl [HO]; · iexact HO
    isplitl [Hp]; · iexact Hp
    iexact Hc
  iintro ⟨HO, Hp, Hx⟩
  iapply Hk
  isplitl [HO]
  · isplitr; · iexact HR
    isplitr; · iexact HL
    iexact HO
  isplitl [Hp]; · iexact Hp
  iapply (Entails.of_eq (show xferPay (blks A) c 3 k = (oPts c (missRows (yp c) k) (gathOf (blks A) c) : sProp 𝕄) from rfl)) $$ Hx

/-- The fourth loop: the transfers out of this device have left. -/
def pre4 (k : Fin 16) : sProp 𝕄 := iprop((pos0 c (kXS k) ∗ credN c (kXS k)) ∗ pos0 c (kYS k) ∗ credN c (kYS k))
def post4 (k : Fin 16) : sProp 𝕄 :=
  iprop(pos1 c (kXS k) ∗ pos1 c (kYS k) ∗ bPts c (rowsA (row c false k) 256) fullShare.left (blks A c) ∗ oPts c (missRows c k) (gathOf (blks A) c))

theorem sent_wp (k : Fin 16) (rest : P F) :
    iprop(frame3 c A K k.val ∗ pre4 c k) ⊢ iprop(((frame3 c A K (k.val + 1) ∗ post4 c A k) -∗ Runs c rest Q) -∗ Runs c (sent c k rest) Q) := by
  unfold frame3 pre4 post4 sent
  iintro ⟨⟨#HR, #HL, HO⟩, ⟨Hp, Hc⟩, Hp', Hc'⟩ Hk
  iapply (wait_wp (blks A) K c k 0 0 rfl (Above.zero _) rfl) $$ [HO Hp Hc]
  · isplitr; · iexact HR
    isplitr; · iexact HL
    isplitl [HO]; · iexact HO
    isplitl [Hp]; · iexact Hp
    iexact Hc
  iintro ⟨HO, Hp, Hx⟩
  iapply (wait_wp (blks A) K c k 2 0 rfl (Above.zero _) rfl) $$ [HO Hp' Hc']
  · isplitr; · iexact HR
    isplitr; · iexact HL
    isplitl [HO]; · iexact HO
    isplitl [Hp']; · iexact Hp'
    iexact Hc'
  iintro ⟨HO, Hp', Hy⟩
  iapply Hk
  isplitl [HO]
  · isplitr; · iexact HR
    isplitr; · iexact HL
    iexact HO
  isplitl [Hp]; · iexact Hp
  isplitl [Hp']; · iexact Hp'
  isplitl [Hx]
  · iapply (Entails.of_eq (show xferPay (blks A) c 0 k = (bPts c (sentRows c k) fullShare.left (blks A c) : sProp 𝕄) from rfl)) $$ Hx
  iapply (Entails.of_eq (show xferPay (blks A) c 2 k = (oPts c (missRows c k) (gathOf (blks A) c) : sProp 𝕄) from rfl)) $$ Hy

/-! ## The whole body -/

/-- A family of sixteen. -/
abbrev all16 (Φ : Fin 16 → sProp (MT nD τ sig Unit (Elt F) ℕ UU ℕ)) : sProp 𝕄 := bigSep Finset.univ Φ

/-- The tokens of the duties device `c` pays. -/
def payToks : sProp 𝕄 :=
  iprop(tok (xp c) kBar false ∗ tok (yp c) kBar true
    ∗ all16 (fun k => tok c (kXS k) false) ∗ all16 (fun k => tok (xp c) (kXR k) false)
    ∗ all16 (fun k => tok c (kYS k) false) ∗ all16 (fun k => tok (yp c) (kYR k) false))
/-- The credits of what others owe it. -/
def creds : sProp 𝕄 :=
  iprop(cred (tallyAt (cell c kBar) () 2) ∗ all16 (fun k => credN c (kXR k)) ∗ all16 (fun k => credN c (kYR k)))
/-- Its scratch buffers and semaphores. -/
def scratch : sProp 𝕄 :=
  iprop((∃ f, bPts c Finset.univ fullShare f) ∗ idle c 0 ∗ idle c 1
    ∗ semVal ((c : Thread nD τ), .dma (sOwn 0)) 0 ∗ semVal ((c : Thread nD τ), .dma (sOwn 1)) 0)

/-- What the body starts from and ends in. -/
def start : sProp 𝕄 :=
  iprop(records (blks A) K ∗ levAts L lv ∗ owing c (owesAll c) ∗ bigSep Finset.univ (pos0 c) ∗ payToks c ∗ creds c
    ∗ aPts c Finset.univ (A c) ∗ (∃ f, oPts c Finset.univ f) ∗ scratch c)
def finish : sProp 𝕄 :=
  iprop(owing c 0 ∗ (bigSep Finset.univ fun κ => semVal (cell c κ) 0)
    ∗ aPts c Finset.univ (A c) ∗ oPts c Finset.univ (gathOf (blks A) c) ∗ scratch c)

/-- After their round the cells are closed: every semaphore is zero. -/
theorem close_cells : iprop(records (blks A) K ∗ bigSep Finset.univ (pos1 c)) ⊢ (iprop(|={Set.univ}=> bigSep Finset.univ fun κ => semVal (cell c κ) 0) : sProp 𝕄) := by
  refine (bigSep_with_persistent (R := records (blks A) K) (Ψ := fun κ => iprop(|={Set.univ}=> (semVal (cell c κ) 0 : sProp 𝕄))) fun κ _ => ?_).trans
    (bigSep_fupd _ _)
  refine (sep_mono_left (inv_at (blks A) K c κ)).trans ?_
  exact Rounds.cell_close ER (sched (blks A)) (Set.mem_univ _) (fun h => h) (R := 1) (duties_later (blks A) (cell c κ))

theorem steps_wp : (start c A K : sProp 𝕄) ⊢ Runs c (steps c) (fun _ => finish c A) := by
  unfold start payToks creds scratch steps
  rw [bigSep_keys (pos0 c)]
  iintro ⟨#HR, #HL, HO, ⟨Hpb, Hpxs, Hpxr, Hpys, Hpyr⟩, ⟨Htx, Hty, Htxs, Htxr, Htys, Htyr⟩, ⟨Hcb, Hcx, Hcy⟩, Ha, Ho, Hb, Hi0, Hi1, Hv0, Hv1⟩
  ihave Ho := (oAny_split c) $$ Ho
  icases Ho with ⟨Ho0, Ho1, Hom, Homy⟩
  ihave Hb := (bAny_split c) $$ Hb
  icases Hb with ⟨Hb0, Hb1⟩
  ihave Ha := (Entails.of_eq (aPts_halves c (A c))) $$ Ha
  icases Ha with ⟨Ha0, Ha1⟩
  iapply (handshake_wp (blks A) K c) $$ [HO Htx Hty Hpb Hcb Hom Homy]
  · isplitr; · iexact HR
    isplitr; · iexact HL
    isplitl [HO]; · iexact HO
    isplitl [Htx]; · iexact Htx
    isplitl [Hty]; · iexact Hty
    isplitl [Hpb]; · iexact Hpb
    isplitl [Hcb]; · iexact Hcb
    isplitl [Hom]; · iexact Hom
    iexact Homy
  iintro ⟨HO, Hpb, Hrx, Hry⟩
  iapply (stage_start c A false) $$ [Hi0 Hi1 Ha0]
  · isplitl [Hi0]; · iexact Hi0
    isplitl [Hi1]; · iexact Hi1
    iexact Ha0
  iintro Hs
  iapply (loop_wp c (frame1 c A K) (pre1 c) (post1 c A) (phase1 c) (phase1_wp c A K)) $$ [Hs HO Hb0 Htxs Htxr Hrx]
  · isplitl [Hs HO]
    · unfold frame1
      isplitr; · iexact HR
      isplitr; · iexact HL
      isplitl [Hs]; · iexact Hs
      iexact HO
    iapply (Entails.of_eq (show (bigSep Finset.univ (pre1 c) : sProp 𝕄) = _ from by unfold pre1; rw [bigSep_sep', bigSep_sep', bigSep_sep']).symm)
    isplitl [Hb0]; · iexact Hb0
    isplitl [Htxs]; · iexact Htxs
    isplitl [Htxr]; · iexact Htxr
    unfold readyX
    iexact Hrx
  iintro ⟨HF, HP⟩
  unfold frame1
  icases HF with ⟨-, -, Hs, HO⟩
  ihave Hs := (Entails.of_eq (stage_end c A false)) $$ Hs
  icases Hs with ⟨Hi0, Hi1, Ha0⟩
  ihave HP := (Entails.of_eq (show (bigSep Finset.univ (post1 c A) : sProp 𝕄) = _ from by unfold post1; rw [bigSep_sep', ← bPts_chunks])) $$ HP
  icases HP with ⟨Hbr, Hcxs⟩
  iapply (copyOwn_wp (blks A) c false fullShare.right) $$ [Hv0 Ho0 Hbr]
  · isplitl [Hv0]; · iexact Hv0
    isplitl [Ho0]; · iexact Ho0
    iexact Hbr
  iintro Hf0
  iapply (stage_start c A true) $$ [Hi0 Hi1 Ha1]
  · isplitl [Hi0]; · iexact Hi0
    isplitl [Hi1]; · iexact Hi1
    iexact Ha1
  iintro Hs
  iapply (loop_wp c (frame2 c A K) (pre2 c) (post2 c A) (phase2 c) (phase2_wp c A K)) $$ [Hs HO Hb1 Hpxr Hcx Htys Htyr Hry]
  · isplitl [Hs HO]
    · unfold frame2
      isplitr; · iexact HR
      isplitr; · iexact HL
      isplitl [Hs]; · iexact Hs
      iapply (Entails.of_eq (show (owing c (owesX c 16 + owesY c 0) : sProp 𝕄) = owing c (owesY c 0 + 0) from by rw [owesX_end, zero_add, add_zero])) $$ HO
    iapply (Entails.of_eq (show (bigSep Finset.univ (pre2 c) : sProp 𝕄) = _ from by
      unfold pre2; rw [bigSep_sep', bigSep_sep', bigSep_sep', bigSep_sep', bigSep_sep']).symm)
    isplitl [Hb1]; · iexact Hb1
    isplitl [Hpxr]; · iexact Hpxr
    isplitl [Hcx]; · iexact Hcx
    isplitl [Htys]; · iexact Htys
    isplitl [Htyr]; · iexact Htyr
    unfold readyY
    iexact Hry
  iintro ⟨HF, HP⟩
  unfold frame2
  icases HF with ⟨-, -, Hs, HO⟩
  ihave Hs := (Entails.of_eq (stage_end c A true)) $$ Hs
  icases Hs with ⟨Hi0, Hi1, Ha1⟩
  ihave HP := (Entails.of_eq (show (bigSep Finset.univ (post2 c A) : sProp 𝕄) = _ from by
    unfold post2; rw [bigSep_sep', bigSep_sep', ← bPts_chunks])) $$ HP
  icases HP with ⟨Hb1, Hpxr, Hcys⟩
  iapply (copyOwn_wp (blks A) c true fullShare) $$ [Hv1 Ho1 Hb1]
  · isplitl [Hv1]; · iexact Hv1
    isplitl [Ho1]; · iexact Ho1
    iexact Hb1
  iintro Hf1
  iapply (loop_wp c (frame3 c A K) (pre3 c) (post3 c A) (recvY c) (recvY_wp c A K)) $$ [HO Hpyr Hcy]
  · isplitl [HO]
    · unfold frame3
      isplitr; · iexact HR
      isplitr; · iexact HL
      iapply (Entails.of_eq (show (owing c (owesY c 16 + 0) : sProp 𝕄) = owing c 0 from by rw [owesY_end, zero_add])) $$ HO
    iapply (Entails.of_eq (show (bigSep Finset.univ (pre3 c) : sProp 𝕄) = _ from by unfold pre3; rw [bigSep_sep']).symm)
    isplitl [Hpyr]; · iexact Hpyr
    iexact Hcy
  iintro ⟨HF, HP⟩
  ihave HP := (Entails.of_eq (show (bigSep Finset.univ (post3 c A) : sProp 𝕄) = _ from by unfold post3; rw [bigSep_sep'])) $$ HP
  icases HP with ⟨Hpyr, Homy⟩
  iapply (loop_wp c (frame3 c A K) (pre4 c) (post4 c A) (sent c) (sent_wp c A K)) $$ [HF Hpxs Hcxs Hpys Hcys]
  · isplitl [HF]; · iexact HF
    iapply (Entails.of_eq (show (bigSep Finset.univ (pre4 c) : sProp 𝕄) = _ from by unfold pre4; rw [bigSep_sep', bigSep_sep', bigSep_sep']).symm)
    isplitl [Hpxs Hcxs]
    · isplitl [Hpxs]; · iexact Hpxs
      iexact Hcxs
    isplitl [Hpys]; · iexact Hpys
    iexact Hcys
  iintro ⟨HF, HP⟩
  unfold frame3
  icases HF with ⟨-, -, HO⟩
  ihave HP := (Entails.of_eq (show (bigSep Finset.univ (post4 c A) : sProp 𝕄) = _ from by
    unfold post4; rw [bigSep_sep', bigSep_sep', bigSep_sep', ← bPts_chunks])) $$ HP
  icases HP with ⟨Hpxs, Hpys, Hbl, Hom⟩
  iapply (waitOwn_wp (blks A) c false fullShare.right) $$ [Hf0 HO]
  · isplitl [Hf0]; · iexact Hf0
    iexact HO
  iintro ⟨H0, Hv0, HO⟩
  unfold copied
  icases H0 with ⟨Ho0, Hbr⟩
  iapply (waitOwn_wp (blks A) c true fullShare) $$ [Hf1 HO]
  · isplitl [Hf1]; · iexact Hf1
    iexact HO
  iintro ⟨H1, Hv1, HO⟩
  unfold copied
  icases H1 with ⟨Ho1, Hb1⟩
  imod (close_cells c A K) $$ [Hpb Hpxs Hpxr Hpys Hpyr] with Hsem
  · isplitr; · iexact HR
    iapply (Entails.of_eq (bigSep_keys (pos1 c)).symm)
    isplitl [Hpb]; · iexact Hpb
    isplitl [Hpxs]; · iexact Hpxs
    isplitl [Hpxr]; · iexact Hpxr
    isplitl [Hpys]; · iexact Hpys
    iexact Hpyr
  rw [wp_ret]
  imodintro
  unfold finish scratch
  isplitl [HO]; · iexact HO
  isplitl [Hsem]; · iexact Hsem
  isplitl [Ha0 Ha1]
  · iapply (Entails.of_eq (aPts_halves c (A c)).symm)
    isplitl [Ha0]; · iexact Ha0
    iexact Ha1
  isplitl [Ho0 Ho1 Hom Homy]
  · iapply (Entails.of_eq (oPts_parts c _).symm)
    isplitl [Ho0 Ho1]
    · isplitl [Ho0]; · iexact Ho0
      iexact Ho1
    isplitl [Hom]; · iexact Hom
    iexact Homy
  isplitl [Hbl Hbr Hb1]
  · iexists (blks A c)
    iapply (Entails.of_eq (bPts_halves c fullShare (blks A c)).symm)
    isplitl [Hbl Hbr]
    · iapply (Entails.of_eq (bPts_share c _ _).symm)
      isplitl [Hbl]; · iexact Hbl
      iexact Hbr
    iexact Hb1
  isplitl [Hi0]; · iexact Hi0
  isplitl [Hi1]; · iexact Hi1
  isplitl [Hv0]; · iexact Hv0
  iexact Hv1

end Cert.Kernel.Flow

end
-- ==== Proof.Ghost.lean ====
/-
# Setting up the handshakes

What the launch deals out and what each device starts from: the sixty-five cells of every device opened at once,
the tokens of their duties passed to the devices that pay them, and the credits for what the neighbours owe.
-/
module

public import proofs.«01_k».proof.Proof.Body

@[expose] public section

noncomputable section

namespace Cert.Kernel.Flow

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A device's own semaphores -/

/-- The semaphores the kernel allocates: those of the transfers, of the staging slots, of the two local copies. -/
abbrev Own : Type := (Fin 4 × Fin 16) ⊕ (Fin 2 ⊕ Fin 2)
def osem : Own → SemLoc sig
  | .inl (j, k) => .dma (xferSem j k)
  | .inr (.inl s) => .dma (sStag s)
  | .inr (.inr s) => .dma (sOwn s)

theorem sStag_val (s : Fin 2) : (sStag s).val = s.val := by revert s; decide
theorem sOwn_val (s : Fin 2) : (sOwn s).val = 66 + s.val := by revert s; decide
/-- The position of a semaphore among the kernel's own. -/
def place : Own → ℕ
  | .inl (j, k) => 2 + 16 * j.val + k.val
  | .inr (.inl s) => s.val
  | .inr (.inr s) => 66 + s.val
theorem osem_place (o o' : Own) (h : osem o = osem o') : place o = place o' := by
  have key : ∀ o, ∃ s : DmaSem sig, osem o = .dma s ∧ s.val = place o := by
    rintro (⟨j, k⟩ | s | s)
    · exact ⟨_, rfl, xferSem_val j k⟩
    · exact ⟨_, rfl, sStag_val s⟩
    · exact ⟨_, rfl, sOwn_val s⟩
  obtain ⟨s, hs, hv⟩ := key o
  obtain ⟨s', hs', hv'⟩ := key o'
  rw [hs, hs'] at h
  rw [← hv, ← hv', SemLoc.dma.inj h]
theorem osem_inj : Function.Injective osem := by
  rintro (⟨j, k⟩ | s | s) (⟨j', k'⟩ | s' | s') h <;> have h := osem_place _ _ h <;> simp only [place] at h
  · have := k.isLt; have := k'.isLt
    rw [show j = j' from Fin.ext (by omega), show k = k' from Fin.ext (by omega)]
  · have := s'.isLt; omega
  · have := j.isLt; have := k.isLt; omega
  · have := s.isLt; omega
  · rw [Fin.ext h]
  · have := s.isLt; omega
  · have := j'.isLt; have := k'.isLt; omega
  · have := s'.isLt; omega
  · rw [show s = s' from Fin.ext (by omega)]
theorem ownSemFacts : Pipeline.OwnSemFacts cfg0.spec osem where
  isScoped := by
    rintro (⟨j, k⟩ | s | s)
    · revert j k; decide
    · revert s; decide
    · revert s; decide
  inj := osem_inj
  disj _ w := w.elim0

/-- The semaphores of the local copies, at zero. -/
def localSems (c : Dev nD) : sProp 𝕄 :=
  iprop((semVal ((c : Thread nD τ), .dma (sStag 0)) 0 ∗ semVal ((c : Thread nD τ), .dma (sStag 1)) 0)
    ∗ semVal ((c : Thread nD τ), .dma (sOwn 0)) 0 ∗ semVal ((c : Thread nD τ), .dma (sOwn 1)) 0)

omit [FloatOps F] in
theorem unscopedSems0_eq (c : Dev nD) : (unscopedSems0 c : sProp 𝕄) = semVal (cell c kBar) 0 := by
  unfold unscopedSems0
  rw [bigSep_eq_bigSepL_of_eq [SemLoc.reg sBar] (by decide) (by decide)]
  rfl
omit [FloatOps F] in
theorem two (Φ : Fin 2 → sProp 𝕄) : bigSep Finset.univ Φ = iprop(Φ 0 ∗ Φ 1) :=
  bigSep_univ_eq_bigSepL [0, 1] (by decide) (by decide) Φ
omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun p : Fin 4 × Fin 16 => semVal (cell c (.inr p)) 0) ∗ localSems c) := by
  unfold Pipeline.ownSems0 localSems
  refine (bigSep_univ_sum _).trans ?_
  refine congrArg₂ BIBase.sep rfl ((bigSep_univ_sum _).trans (congrArg₂ BIBase.sep (two _) (two _)))
omit [FloatOps F] in
theorem keys_eq (c : Dev nD) : (bigSep Finset.univ fun κ : Key => (semVal (cell c κ) 0 : sProp 𝕄))
    = iprop(semVal (cell c kBar) 0 ∗ bigSep Finset.univ fun p : Fin 4 × Fin 16 => semVal (cell c (.inr p)) 0) := by
  refine (bigSep_univ_sum _).trans ?_
  rw [show (Finset.univ : Finset Unit) = {()} from rfl, bigSep_singleton]
  rfl
omit [FloatOps F] in
/-- A device's semaphores at zero are its cells at zero and those of its local copies. -/
theorem sems_eq (c : Dev nD) :
    iprop(Pipeline.ownSems0 (Ix := Unit) (Name := ℕ) (U := UU) (Lvl := ℕ) (Val := Elt F) (τ := τ) osem c ∗ unscopedSems0 c)
      ⊢ iprop((bigSep Finset.univ fun κ : Key => (semVal (cell c κ) 0 : sProp 𝕄)) ∗ localSems c) := by
  rw [ownSems0_eq, unscopedSems0_eq, keys_eq]
  iintro ⟨⟨H1, H2⟩, H3⟩
  isplitl [H1 H3]
  · isplitl [H3] <;> iassumption
  iexact H2
omit [FloatOps F] in
theorem sems_back (c : Dev nD) :
    iprop((bigSep Finset.univ fun κ : Key => (semVal (cell c κ) 0 : sProp 𝕄)) ∗ localSems c)
      ⊢ iprop(Pipeline.ownSems0 (Ix := Unit) (Name := ℕ) (U := UU) (Lvl := ℕ) (Val := Elt F) (τ := τ) osem c ∗ unscopedSems0 c) := by
  rw [ownSems0_eq, unscopedSems0_eq, keys_eq]
  iintro ⟨⟨H3, H1⟩, H2⟩
  isplitl [H1 H2]
  · isplitl [H1] <;> iassumption
  iexact H3

/-! ## Cells and tokens -/

theorem cellOf_injective : Function.Injective (fun ck : Dev nD × Key => cell ck.1 ck.2) := by
  rintro ⟨c, κ⟩ ⟨c', κ'⟩ h
  obtain ⟨rfl, rfl⟩ := cell_inj h
  rfl
def ringCells : Finset (GSem nD τ sig) := Finset.univ.map ⟨fun ck : Dev nD × Key => cell ck.1 ck.2, cellOf_injective⟩

/-- The duties of one device's cells: two of its barrier, one of each other. -/
abbrev Duty : Type := Bool ⊕ (Fin 4 × Fin 16)
def dutyOf (c : Dev nD) : Duty → GSem nD τ sig × ℕ × Bool
  | .inl b => (cell c kBar, 0, b)
  | .inr p => (cell c (.inr p), 0, false)
theorem dutyOf_injective : Function.Injective (fun cd : Dev nD × Duty => dutyOf cd.1 cd.2) := by
  rintro ⟨c, b | p⟩ ⟨c', b' | p'⟩ h <;> obtain ⟨h1, h2⟩ := Prod.mk.inj h <;> obtain ⟨rfl, h3⟩ := cell_inj h1
  · rw [(Prod.mk.inj h2).2]
  · cases h3
  · cases h3
  · rw [Sum.inr.inj h3]
def ringToks : Finset (GSem nD τ sig × ℕ × Bool) := Finset.univ.map ⟨fun cd : Dev nD × Duty => dutyOf cd.1 cd.2, dutyOf_injective⟩

def u₀ : UU :=
  (initOf (Pipeline.cells cfgs cellOf_inj) (Pipeline.launchToks cfgs cellOf_inj), (initOf ringCells ringToks, 1))

omit [FloatOps F] in
/-- The launch's resource is the pipeline's part and the handshakes' part. -/
theorem own_parts : (ownU u₀ : sProp 𝕄)
    ⊢ iprop(BI.own (EP (initOf (Pipeline.cells cfgs cellOf_inj) (Pipeline.launchToks cfgs cellOf_inj))) ∗ BI.own (ER (initOf ringCells ringToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf ringCells ringToks, (1 : Counters)))))

/-- The tokens of the duties of device `c`'s own cells. -/
def toks (c : Dev nD) : sProp 𝕄 :=
  iprop(tok c kBar false ∗ tok c kBar true
    ∗ all16 (fun k => tok c (kXS k) false) ∗ all16 (fun k => tok c (kXR k) false)
    ∗ all16 (fun k => tok c (kYS k) false) ∗ all16 (fun k => tok c (kYR k) false))

omit [FloatOps F] in
theorem ringToks_eq : bigSep ringToks (fun x => (dutyTok ER x.1 x.2.1 x.2.2 : sProp 𝕄)) = bigSep Finset.univ fun c : Dev nD => toks c := by
  have four : ∀ Ψ : Fin 4 → sProp 𝕄, bigSep Finset.univ Ψ = iprop(Ψ 0 ∗ Ψ 1 ∗ Ψ 2 ∗ Ψ 3) := fun Ψ =>
    bigSep_univ_eq_bigSepL [0, 1, 2, 3] (by decide) (by decide) Ψ
  have assoc : ∀ X Y Z : sProp 𝕄, (iprop((X ∗ Y) ∗ Z) : sProp 𝕄) = iprop(X ∗ Y ∗ Z) := fun X Y Z =>
    Entails.antisymm (sep_assoc (PROP := sProp 𝕄)).1 (sep_assoc (PROP := sProp 𝕄)).2
  have both : ∀ Ψ : Bool → sProp 𝕄, bigSep Finset.univ Ψ = iprop(Ψ false ∗ Ψ true) := fun Ψ =>
    bigSep_univ_eq_bigSepL [false, true] (by decide) (by decide) Ψ
  unfold ringToks
  rw [bigSep_map, bigSep_univ_prod]
  refine bigSep_congr fun c _ => ?_
  refine (bigSep_univ_sum _).trans ?_
  rw [both, bigSep_univ_prod, four]
  unfold toks
  exact assoc _ _ _

omit [FloatOps F] in
/-- The tokens passed on: a device pays duties of its own cells and of its two neighbours'. -/
theorem toks_around : (bigSep Finset.univ fun c : Dev nD => (toks c : sProp 𝕄)) = bigSep Finset.univ fun c : Dev nD => payToks c := by
  unfold toks payToks
  rw [bigSep_sep', bigSep_sep', bigSep_sep', bigSep_sep', bigSep_sep', bigSep_sep', bigSep_sep', bigSep_sep', bigSep_sep', bigSep_sep',
    bigSep_univ_equiv xSwap (fun c : Dev nD => (tok c kBar false : sProp 𝕄)),
    bigSep_univ_equiv ySwap (fun c : Dev nD => (tok c kBar true : sProp 𝕄)),
    bigSep_univ_equiv xSwap (fun c : Dev nD => (all16 (fun k => tok c (kXR k) false) : sProp 𝕄)),
    bigSep_univ_equiv ySwap (fun c : Dev nD => (all16 (fun k => tok c (kYR k) false) : sProp 𝕄))]
  rfl

variable (B : Dev nD → S8192x1024.Idx → F .bf16)

/-- What the launch deals device `c`. -/
def dealt (c : Dev nD) : sProp 𝕄 :=
  iprop((bigSep Finset.univ fun κ : Key => roundState ER (sched B) (cell c κ) 0)
    ∗ (bigSep Finset.univ fun κ : Key => reached ER (cell c κ) 0) ∗ bigSep Finset.univ (pos0 c) ∗ toks c)

omit [FloatOps F] in
theorem ringCells_eq (Φ : GSem nD τ sig → sProp 𝕄) :
    bigSep ringCells Φ = bigSep Finset.univ fun c : Dev nD => bigSep Finset.univ fun κ : Key => Φ (cell c κ) := by
  unfold ringCells
  rw [bigSep_map, bigSep_univ_prod]
  rfl

omit [FloatOps F] in
theorem deal : BI.own (ER (initOf ringCells ringToks)) ⊢ (|==> bigSep Finset.univ (dealt B) : sProp 𝕄) := by
  iintro HX
  imod (Rounds.fund ER (sched B) ringCells ringToks) $$ HX with ⟨Hst, Hr, Hat, Htok⟩
  imodintro
  ihave Hst := (Entails.of_eq (ringCells_eq fun g => roundState ER (sched B) g 0)) $$ Hst
  ihave Hat := (Entails.of_eq (ringCells_eq fun g => atPos ER g 0 ∅ 0)) $$ Hat
  ihave Hr := (Entails.of_eq (ringCells_eq fun g => reached ER g 0)) $$ Hr
  ihave Htok := (Entails.of_eq ringToks_eq) $$ Htok
  unfold dealt
  simp only [bigSep_sep']
  isplitl [Hst]; · iexact Hst
  isplitl [Hr]; · iexact Hr
  isplitl [Hat]; · iexact Hat
  iexact Htok

/-- What device `c` has once the cells are open. -/
def opened (c : Dev nD) : sProp 𝕄 :=
  iprop(∃ K, records B K ∗ bigSep Finset.univ (pos0 c) ∗ payToks c ∗ localSems c)

omit [FloatOps F] in
/-- All devices' cells opened at once. -/
theorem open_all :
    (bigSep Finset.univ fun c => iprop(Pipeline.ownSems0 (Ix := Unit) (Name := ℕ) (U := UU) (Lvl := ℕ) (Val := Elt F) (τ := τ) osem c ∗ unscopedSems0 c ∗ dealt B c) : sProp 𝕄)
      ⊢ |={Set.univ}=> bigSep Finset.univ (opened B) := by
  have sort : ∀ c : Dev nD, (iprop(Pipeline.ownSems0 (Ix := Unit) (Name := ℕ) (U := UU) (Lvl := ℕ) (Val := Elt F) (τ := τ) osem c ∗ unscopedSems0 c ∗ dealt B c) : sProp 𝕄)
      ⊢ iprop(((bigSep Finset.univ fun κ : Key => semVal (cell c κ) 0) ∗ (bigSep Finset.univ fun κ : Key => roundState ER (sched B) (cell c κ) 0))
          ∗ (bigSep Finset.univ fun κ : Key => reached ER (cell c κ) 0) ∗ bigSep Finset.univ (pos0 c) ∗ toks c ∗ localSems c) := by
    intro c
    unfold dealt
    iintro ⟨Hos, Hus, Hst, Hr, Hat, Htok⟩
    ihave Hv := (sems_eq (F := F) c) $$ [Hos Hus]
    · isplitl [Hos] <;> iassumption
    icases Hv with ⟨Hv, Hl⟩
    isplitl [Hv Hst]
    · isplitl [Hv] <;> iassumption
    isplitl [Hr]; · iexact Hr
    isplitl [Hat]; · iexact Hat
    isplitl [Htok] <;> iassumption
  refine (bigSep_mono fun c _ => sort c).trans ?_
  rw [bigSep_sep', bigSep_sep', bigSep_sep', bigSep_sep', bigSep_sep', toks_around,
    ← ringCells_eq (fun g => (semVal g 0 : sProp 𝕄)), ← ringCells_eq (fun g => roundState ER (sched B) g 0)]
  refine (show (iprop(((bigSep ringCells fun g => (semVal g 0 : sProp 𝕄)) ∗ bigSep ringCells fun g => roundState ER (sched B) g 0)
      ∗ (bigSep Finset.univ fun c : Dev nD => bigSep Finset.univ fun κ : Key => reached ER (cell c κ) 0)
      ∗ (bigSep Finset.univ fun c : Dev nD => bigSep Finset.univ (pos0 c)) ∗ (bigSep Finset.univ fun c : Dev nD => payToks c)
      ∗ bigSep Finset.univ fun c : Dev nD => localSems c) : sProp 𝕄) ⊢ _ from ?_)
  iintro ⟨Hb, Hr, Hat, Htok, Hl⟩
  ihave Hb := (Rounds.bodies_intro ER (sched B) ringCells) $$ Hb
  imod (inv_alloc_family ringCells (Rounds.body ER (sched B)) ∅ (E := Set.univ)) $$ Hb with ⟨%ι, -, Hinv⟩
  imodintro
  ihave Hinv := (Entails.of_eq (ringCells_eq fun g => (cellInv ER (sched B) (ι g) g : sProp 𝕄))) $$ Hinv
  ihave HR := (show iprop((bigSep Finset.univ fun c : Dev nD => bigSep Finset.univ fun κ : Key => (cellInv ER (sched B) (ι (cell c κ)) (cell c κ) : sProp 𝕄))
      ∗ bigSep Finset.univ fun c : Dev nD => bigSep Finset.univ fun κ : Key => (reached ER (cell c κ) 0 : sProp 𝕄)) ⊢ records B (fun ck => ι (cell ck.1 ck.2)) from by
    unfold records; rw [bigSep_univ_prod, bigSep_univ_prod]) $$ [Hinv Hr]
  · isplitl [Hinv] <;> iassumption
  iapply (bigSep_with_persistent (R := records B fun ck => ι (cell ck.1 ck.2))
    (Φ := fun c => iprop(bigSep Finset.univ (pos0 c) ∗ payToks c ∗ localSems c)) fun c _ =>
      exists_intro (PROP := sProp 𝕄) (Φ := fun K : Dev nD × Key → ℕ => iprop(records B K ∗ bigSep Finset.univ (pos0 c) ∗ payToks c ∗ localSems c)) (fun ck : Dev nD × Key => ι (cell ck.1 ck.2)))
  isplitl [HR]; · iexact HR
  rw [bigSep_sep', bigSep_sep']
  isplitl [Hat]; · iexact Hat
  isplitl [Htok] <;> iassumption

/-! ## The credits -/

omit [FloatOps F] in
/-- What is owed to one cell by a family of dues to pairwise different cells. -/
theorem sum_owed (g : Fin 16 → GSem nD τ sig) (S : Finset (Fin 16)) (h : GSem nD τ sig) :
    (∑ k ∈ S, tallyAt (g k) () N : CellTallies nD τ sig Unit) h () = ∑ k ∈ S, if h = g k then N else 0 := by
  induction S using Finset.induction_on with
  | empty => rfl
  | insert k S hk ih =>
    rw [Finset.sum_insert hk, Finset.sum_insert hk, Pi.add_apply, Finsupp.add_apply, ih, tallyAt_apply]
    simp only [and_true]

theorem filter_all : (Finset.univ.filter fun l : Fin 16 => 0 ≤ l.val) = Finset.univ := by
  ext l; simp
theorem owesX_at (d c : Dev nD) (κ : Key) : owesX d 0 (cell c κ) () = ∑ k : Fin 16, if cell c κ = cell (xp d) (kXR k) then N else 0 := by
  unfold owesX; rw [filter_all]; exact sum_owed _ _ _
theorem owesY_at (d c : Dev nD) (κ : Key) : owesY d 0 (cell c κ) () = ∑ k : Fin 16, if cell c κ = cell (yp d) (kYR k) then N else 0 := by
  unfold owesY; rw [filter_all]; exact sum_owed _ _ _

theorem xp_eq_iff {c d : Dev nD} : c = xp d ↔ d = xp c := ⟨fun h => by rw [h, xp_xp], fun h => by rw [h, xp_xp]⟩
theorem yp_eq_iff {c d : Dev nD} : c = yp d ↔ d = yp c := ⟨fun h => by rw [h, yp_yp], fun h => by rw [h, yp_yp]⟩
theorem cell_eq_iff {c c' : Dev nD} {κ κ' : Key} : cell c κ = cell c' κ' ↔ c = c' ∧ κ = κ' :=
  ⟨cell_inj, fun ⟨h, h'⟩ => by rw [h, h']⟩

/-- What device `d` owes device `c`'s cells when it starts. -/
theorem owesAll_at (d c : Dev nD) (κ : Key) : owesAll d (cell c κ) ()
    = (((∑ k : Fin 16, if c = xp d ∧ κ = kXR k then N else 0) + ∑ k : Fin 16, if c = yp d ∧ κ = kYR k then N else 0)
        + if c = yp d ∧ κ = kBar then 1 else 0) + if c = xp d ∧ κ = kBar then 1 else 0 := by
  unfold owesAll owesReady
  rw [Pi.add_apply, Finsupp.add_apply, Pi.add_apply, Finsupp.add_apply, Pi.add_apply, Finsupp.add_apply, owesX_at, owesY_at, tallyAt_apply, tallyAt_apply]
  simp only [cell_eq_iff, and_true]

theorem owed_bar (d c : Dev nD) : owesAll d (cell c kBar) () = (if d = yp c then 1 else 0) + if d = xp c then 1 else 0 := by
  rw [owesAll_at]
  simp [xp_eq_iff (c := c), yp_eq_iff (c := c)]
theorem owed_xr (d c : Dev nD) (k : Fin 16) : owesAll d (cell c (kXR k)) () = if d = xp c then N else 0 := by
  rw [owesAll_at]
  simp only [xp_eq_iff (c := c), yp_eq_iff (c := c), Sum.inr.injEq, Prod.mk.injEq, reduceCtorEq, and_false, if_false, add_zero, true_and]
  by_cases h : d = xp c
  · simp [h]
  · simp [h]
theorem owed_yr (d c : Dev nD) (k : Fin 16) : owesAll d (cell c (kYR k)) () = if d = yp c then N else 0 := by
  rw [owesAll_at]
  simp only [xp_eq_iff (c := c), yp_eq_iff (c := c), Sum.inr.injEq, Prod.mk.injEq, reduceCtorEq, and_false, if_false, add_zero, true_and]
  by_cases h : d = yp c
  · simp [h]
  · simp [h]

/-- The credit of a cell whose dues, summed over the devices, are `n`. -/
theorem launch_cell (c : Dev nD) (κ : Key) (n : ℕ) (h : ∑ d : Dev nD, owesAll d (cell c κ) () = n) :
    tallyOn (cell c κ) (launchCredit (Pipeline.owing owesAll) 0 (cell c κ)) = (tallyAt (cell c κ) () n : CellTallies nD τ sig Unit) := by
  unfold tallyAt
  refine congrArg _ (Finsupp.ext fun u => ?_)
  cases u
  rw [Pipeline.launchCredit_owing, Finsupp.single_eq_same, h]
theorem sum_bar (c : Dev nD) : ∑ d : Dev nD, owesAll d (cell c kBar) () = 2 := by
  rw [Finset.sum_congr rfl fun d _ => owed_bar d c, Finset.sum_add_distrib, Finset.sum_ite_eq' Finset.univ (yp c) fun _ => 1,
    Finset.sum_ite_eq' Finset.univ (xp c) fun _ => 1, if_pos (Finset.mem_univ _), if_pos (Finset.mem_univ _)]
theorem sum_xr (c : Dev nD) (k : Fin 16) : ∑ d : Dev nD, owesAll d (cell c (kXR k)) () = N := by
  rw [Finset.sum_congr rfl fun d _ => owed_xr d c k, Finset.sum_ite_eq' Finset.univ (xp c) fun _ => N, if_pos (Finset.mem_univ _)]
theorem sum_yr (c : Dev nD) (k : Fin 16) : ∑ d : Dev nD, owesAll d (cell c (kYR k)) () = N := by
  rw [Finset.sum_congr rfl fun d _ => owed_yr d c k, Finset.sum_ite_eq' Finset.univ (yp c) fun _ => N, if_pos (Finset.mem_univ _)]

omit [FloatOps F] in
/-- Of a device's launch credit, what its waits use. -/
theorem creds_intro (c : Dev nD) : (Pipeline.launchCred owesAll c : sProp 𝕄) ⊢ creds c := by
  unfold Pipeline.launchCred
  refine (bigSep_subset (Finset.subset_univ (Finset.univ.map ⟨csem, csem_inj⟩))).trans ?_
  rw [bigSep_map]
  refine (Entails.of_eq (bigSep_keys fun κ : Key => (cred (tallyOn (cell c κ) (launchCredit (Pipeline.owing owesAll) 0 (cell c κ))) : sProp 𝕄))).trans ?_
  have hx : (bigSep Finset.univ fun k : Fin 16 => (cred (tallyOn (cell c (kXR k)) (launchCredit (Pipeline.owing owesAll) 0 (cell c (kXR k)))) : sProp 𝕄))
      = all16 fun k => credN c (kXR k) := bigSep_congr fun k _ => by rw [launch_cell c (kXR k) N (sum_xr c k)]
  have hy : (bigSep Finset.univ fun k : Fin 16 => (cred (tallyOn (cell c (kYR k)) (launchCredit (Pipeline.owing owesAll) 0 (cell c (kYR k)))) : sProp 𝕄))
      = all16 fun k => credN c (kYR k) := bigSep_congr fun k _ => by rw [launch_cell c (kYR k) N (sum_yr c k)]
  rw [launch_cell c kBar 2 (sum_bar c), hx, hy]
  unfold creds
  iintro ⟨H1, -, H2, -, H3⟩
  isplitl [H1]; · iexact H1
  isplitl [H2]; · iexact H2
  iexact H3

end Cert.Kernel.Flow

end
-- ==== Proof.Run.lean ====
/-
# The run of the whole program

Every device started, the body run, the final memory read: the argument is what it was, the result is the gathered
array, every semaphore is at zero.
-/
module

public import proofs.«01_k».proof.Proof.Ghost
public import Idealize.ShloMosaic.Lib.Pipeline.CollectiveSegs

@[expose] public section

noncomputable section

namespace Cert.Kernel.Flow

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The staging buffer as its two slots -/

theorem slot_set (s : Fin 2) : (slotM s).view.set = (slotR s).set :=
  (View.set_reshape _ _).trans (View.set_slice_whole cc0_scratch1 _)
theorem mem_slot (s : Fin 2) (i : S2x256x1024.Idx) : i ∈ (slotM s).view.set ↔ (i 0).val = s.val := by
  rw [slot_set, Rect.mem_set_unit]
  refine ⟨fun h => ?_, fun h a => ?_⟩
  · have := h 0
    change s.val ≤ (i 0).val ∧ (i 0).val < s.val + 1 at this
    omega
  · match a with
    | ⟨0, _⟩ => show s.val ≤ (i 0).val ∧ (i 0).val < s.val + 1; omega
    | ⟨1, _⟩ => exact ⟨Nat.zero_le _, by show (i 1).val < 0 + 256; rw [Nat.zero_add]; exact (i 1).isLt⟩
    | ⟨2, _⟩ => exact ⟨Nat.zero_le _, by show (i 2).val < 0 + 1024; rw [Nat.zero_add]; exact (i 2).isLt⟩
theorem slots_disj : Disjoint (slotM 0).view.set (slotM 1).view.set := by
  rw [Finset.disjoint_left]
  intro i h h'
  have h := (mem_slot 0 i).mp h
  have h' := (mem_slot 1 i).mp h'
  rw [h] at h'
  exact absurd h' (by decide)
theorem slots_union : (slotM 0).view.set ∪ (slotM 1).view.set = Finset.univ := by
  ext i
  rw [Finset.mem_union, mem_slot, mem_slot]
  have : (i 0).val < 2 := (i 0).isLt
  refine ⟨fun _ => Finset.mem_univ _, fun _ => ?_⟩
  show (i 0).val = 0 ∨ (i 0).val = 1
  omega

variable (c : Dev nD)

omit [FloatOps F] in
theorem slots_split (f : Buf (Elt F) ((c : Thread nD τ).loc cc0_scratch1)) :
    (((c : Thread nD τ).loc cc0_scratch1) ↦{fullShare} f : sProp 𝕄) ⊢ iprop((∃ f, tPts c 0 f) ∗ ∃ f, tPts c 1 f) := by
  refine (Entails.of_eq (show (((c : Thread nD τ).loc cc0_scratch1) ↦{fullShare} f : sProp 𝕄)
    = (((c : Thread nD τ).loc cc0_scratch1) ↦[(slotM 0).view.set ∪ (slotM 1).view.set]{fullShare} f) from by rw [slots_union])).trans ?_
  refine (pointsTo_union slots_disj).1.trans ?_
  exact BI.sep_mono (exists_intro (PROP := sProp 𝕄) (Φ := fun f => tPts c 0 f) f) (exists_intro (PROP := sProp 𝕄) (Φ := fun f => tPts c 1 f) f)
omit [FloatOps F] in
theorem slots_join : iprop((∃ f, tPts c 0 f) ∗ ∃ f, tPts c 1 f)
    ⊢ (iprop(∃ f : Buf (Elt F) ((c : Thread nD τ).loc cc0_scratch1), ((c : Thread nD τ).loc cc0_scratch1) ↦{fullShare} f) : sProp 𝕄) := by
  iintro ⟨⟨%f, H0⟩, ⟨%g, H1⟩⟩
  unfold tPts
  ihave H := (pointsTo_join (ℓ := (c : Thread nD τ).loc cc0_scratch1) (q := fullShare) (f := f) (g := g) slots_disj) $$ [H0 H1]
  · isplitl [H0]; · iexact H0
    iexact H1
  ihave H := (Entails.of_eq (show (((c : Thread nD τ).loc cc0_scratch1) ↦[(slotM 0).view.set ∪ (slotM 1).view.set]{fullShare} ((slotM 1).view.set.piecewise g f) : sProp 𝕄)
    = (((c : Thread nD τ).loc cc0_scratch1) ↦{fullShare} ((slotM 1).view.set.piecewise g f)) from by rw [slots_union])) $$ H
  iexists _
  iexact H

/-! ## Before the body and after it -/

variable (m : (ℓ : Loc nD τ sig) → Buf (Elt F) ℓ) (ρ : Dev nD → PrngReg)

/-- The devices' argument blocks in memory `m`, and what each device's result will be. -/
def argOf (d : Dev nD) : S8192x1024.Idx → F .f32 := m ((d : Thread nD τ).loc main_arg0)
def resultOf (d : Dev nD) : S16384x1024.Idx → F .bf16 := gathOf (blks (argOf m)) d

/-- What device `c` has at its start, but for its scratch buffers. -/
def given : sProp 𝕄 :=
  iprop(opened (blks (argOf m)) c ∗ levAts L lv ∗ creds c ∗ aPts c Finset.univ (argOf m c) ∗ ∃ f, oPts c Finset.univ f)
/-- The same with the scratch buffers. -/
def before : sProp 𝕄 :=
  iprop(given c m ∗ (∃ f, bPts c Finset.univ fullShare f) ∗ (∃ f, tPts c 0 f) ∗ ∃ f, tPts c 1 f)
/-- What it has after the body. -/
def after : sProp 𝕄 :=
  iprop((bigSep Finset.univ fun κ => semVal (cell c κ) 0) ∗ aPts c Finset.univ (argOf m c) ∗ oPts c Finset.univ (resultOf m c) ∗ scratch c)

def dats (_ : Fin 1) (c : Dev nD) : Dat τ (Elt F) Unit ℕ UU ℕ cfg0 c where
  A w := w.elim0
  after w _ := w.elim0
  Φ t := match t with
    | ⟨0, _⟩ => before c m
    | ⟨_ + 1, _⟩ => after c m
  q _ := fullShare
  owed t := match t with
    | ⟨0, _⟩ => owesAll c
    | ⟨_ + 1, _⟩ => 0

/-- A program that reads its device's number is the one for that number. -/
theorem device_wp (f : Dev nD → P F) (Q : PUnit → sProp (MT nD τ sig Unit (Elt F) ℕ UU ℕ)) : Runs c (f c) Q ⊢ Runs c (.op .deviceId f) Q := by
  unfold Runs
  rw [wp_deviceId]

theorem runs_mono (p : P F) {Q Q' : PUnit → sProp (MT nD τ sig Unit (Elt F) ℕ UU ℕ)} (h : ∀ a, Q a ⊢ Q' a) : Runs c p Q ⊢ Runs c p Q' :=
  wp_mono _ _ _ h

theorem body_wp (K : Dev nD × Key → ℕ) : (start c (argOf m) K : sProp 𝕄) ⊢ Runs c body (fun _ => finish c (argOf m)) :=
  (steps_wp c (argOf m) K).trans (device_wp c steps _)

omit [FloatOps F] in
theorem no_windows (Φ : Fin cfg0.W → sProp 𝕄) : bigSep Finset.univ Φ = iprop(emp) := by
  rw [show (Finset.univ : Finset (Fin cfg0.W)) = ∅ from rfl, bigSep_empty]
  rfl

theorem before_start : iprop(before c m ∗ owing c (owesAll c)) ⊢ (iprop(∃ K, start c (argOf m) K) : sProp 𝕄) := by
  unfold before given opened localSems
  iintro ⟨⟨⟨⟨%K, #HR, Hat, Htok, ⟨Hs0, Hs1⟩, Hw0, Hw1⟩, #HL, Hcr, Ha, Hout⟩, Hb, Ht0, Ht1⟩, HO⟩
  iexists K
  unfold start scratch idle
  isplitr; · iexact HR
  isplitr; · iexact HL
  isplitl [HO]; · iexact HO
  isplitl [Hat]; · iexact Hat
  isplitl [Htok]; · iexact Htok
  isplitl [Hcr]; · iexact Hcr
  isplitl [Ha]; · iexact Ha
  isplitl [Hout]; · iexact Hout
  isplitl [Hb]; · iexact Hb
  isplitl [Ht0 Hs0]
  · isplitl [Ht0] <;> iassumption
  isplitl [Ht1 Hs1]
  · isplitl [Ht1] <;> iassumption
  isplitl [Hw0] <;> iassumption
theorem finish_after : (finish c (argOf m) : sProp 𝕄) ⊢ iprop(after c m ∗ owing c 0) := by
  unfold finish after resultOf
  iintro ⟨HO, HA⟩
  isplitl [HA] <;> iassumption

omit [FloatOps F] in
theorem owing_of {dat : Dat τ (Elt F) Unit ℕ UU ℕ cfg0 c} (t : Fin (cfg0.N + 1)) : (dat.owesAt () t : sProp 𝕄) ⊢ owing c (dat.owed t) := by
  unfold Dat.owesAt Pipeline.owesWithin owing
  iintro ⟨%W, -, HO⟩
  iexists W
  iexact HO
omit [FloatOps F] in
theorem of_owing {dat : Dat τ (Elt F) Unit ℕ UU ℕ cfg0 c} (t : Fin (cfg0.N + 1)) (h : ∀ x, x ∈ dat.recorded t) : (owing c (dat.owed t) : sProp 𝕄) ⊢ dat.owesAt () t := by
  unfold Dat.owesAt Pipeline.owesWithin owing
  iintro ⟨%W, HO⟩
  iexists W
  isplitr
  · ipureintro; exact fun x _ => Or.inl (h x)
  iexact HO

theorem owed_start : (dats (F := F) m 0 c).owed t0_0.castSucc = owesAll c := rfl
theorem owed_end : (dats (F := F) m 0 c).owed t0_0.succ = 0 := rfl
theorem inv_start : (dats (F := F) m 0 c).Φ t0_0.castSucc = before c m := rfl
theorem inv_end : (dats (F := F) m 0 c).Φ t0_0.succ = after c m := rfl

theorem owes_start : ((dats (F := F) m 0 c).owesAt () t0_0.castSucc : sProp 𝕄) ⊢ owing c (owesAll c) :=
  (owing_of c t0_0.castSucc).trans (Entails.of_eq (by rw [owed_start]))
theorem owes_end : (owing c 0 : sProp 𝕄) ⊢ (dats (F := F) m 0 c).owesAt () t0_0.succ :=
  (Entails.of_eq (by rw [owed_end])).trans (of_owing (dat := dats (F := F) m 0 c) c t0_0.succ fun _ => trivial)

theorem whole_body : iprop(before c m ∗ (dats m 0 c).owesAt () t0_0.castSucc)
    ⊢ Runs c (bodyAt0 (F := F) t0_0) (fun _ => iprop(after c m ∗ (dats m 0 c).owesAt () t0_0.succ)) := by
  rw [body_eq]
  refine (sep_mono_right (PROP := sProp 𝕄) (owes_start c m)).trans ?_
  refine (before_start c m).trans ?_
  exact exists_elim fun K => (body_wp c m K).trans (runs_mono c body fun _ =>
    (finish_after c m).trans (sep_mono_right (PROP := sProp 𝕄) (owes_end c m)))

theorem row_eq (t : Fin cfg0.N) : defs₀ (F := F) .tc cfg0.body (cfg0.bodyArgs t (cfg0.slots t)) = bodyAt0 t := rfl

omit [FloatOps F] in
theorem drop_emp (X Y : sProp 𝕄) : (iprop(X ∗ Y ∗ emp) : sProp 𝕄) ⊢ iprop(X ∗ Y) := by
  iintro ⟨H1, H2, -⟩
  isplitl [H1] <;> iassumption
omit [FloatOps F] in
theorem add_emp (X Y : sProp 𝕄) : (iprop(X ∗ Y) : sProp 𝕄) ⊢ iprop(X ∗ Y ∗ emp) := by
  iintro ⟨H1, H2⟩
  isplitl [H1]; · iexact H1
  isplitl [H2]; · iexact H2
  iempintro

theorem whole_body_emp : iprop(before c m ∗ (dats m 0 c).owesAt () t0_0.castSucc ∗ emp)
    ⊢ Runs c (bodyAt0 (F := F) t0_0) (fun _ => iprop(after c m ∗ (dats m 0 c).owesAt () t0_0.succ ∗ emp)) :=
  ((drop_emp _ _).trans (whole_body c m)).trans (runs_mono c (bodyAt0 (F := F) t0_0) fun _ => add_emp _ _)

set_option maxRecDepth 100000 in
theorem body_obligation : BodyObligation (dats (F := F) m 0 c) (defs₀ (F := F)) 𝒱₀ () Set.univ := fun t => by
  rw [fin_N0 t, no_windows, no_windows, row_eq, inv_start, inv_end]
  exact whole_body_emp c m

/-! ## The launch's side conditions -/

theorem waits : (levAts L lv : sProp 𝕄) ⊢ Pipeline.cellsWaits cfgs (fun p c => dats (F := F) m p c) () 0 c :=
  Pipeline.cellsWaits_intro cfgs (fun p c => dats (F := F) m p c) () 0 c fun w s t => w.elim0

theorem given_intro :
    iprop(Pipeline.unscopedRestP Pipeline.Prefetch.none cfg0.spec c (fun b => m ((c : Thread nD τ).loc b)) ∗ levAts L lv
        ∗ Pipeline.launchCred owesAll c ∗ prngReg c (ρ c) ∗ opened (blks (argOf m)) c)
      ⊢ (|={Set.univ}=> iprop(given c m ∗ emp) : sProp 𝕄) := by
  iintro ⟨Hm, HL, Hcr, -, HG⟩
  ihave Hm := (Entails.of_eq ((Pipeline.unscopedRestP_none cfg0.spec c (fun b => m ((c : Thread nD τ).loc b))).trans
    (unscopedRest0_eq c fun b => m ((c : Thread nD τ).loc b)))) $$ Hm
  icases Hm with ⟨Ha, Ho⟩
  ihave Hcr := (creds_intro (F := F) c) $$ Hcr
  imodintro
  isplitl
  · unfold given aPts oPts argOf
    isplitl [HG]; · iexact HG
    isplitl [HL]; · iexact HL
    isplitl [Hcr]; · iexact Hcr
    isplitl [Ha]; · iexact Ha
    iexists (m ((c : Thread nD τ).loc main_v1))
    iexact Ho
  iempintro

theorem before_intro :
    iprop(given c m ∗ Pipeline.prefHeld Pipeline.Prefetch.none c (fun _ => fullShare.right) (fun k => k.elim0) ∗ Pipeline.scopedRest cfg0.spec c)
      ⊢ (dats m 0 c).Φ 0 := by
  rw [show (dats m 0 c).Φ 0 = before c m from rfl, scopedRest0_eq]
  unfold before
  iintro ⟨Hg, -, ⟨%f, Hb⟩, ⟨%g, Ht⟩⟩
  ihave Ht := (slots_split c g) $$ Ht
  isplitl [Hg]; · iexact Hg
  isplitl [Hb]
  · iexists f
    unfold bPts
    iexact Hb
  iexact Ht

/-- What a device passes on at its end: its barrier semaphore at zero, its argument and its result. -/
def kept : sProp 𝕄 := iprop(unscopedSems0 c ∗ aPts c Finset.univ (argOf m c) ∗ oPts c Finset.univ (resultOf m c))

theorem after_exit :
    (dats m 0 c).Φ (Fin.last cfg0.N) ⊢ iprop(kept c m ∗ Pipeline.ownSems0 osem c ∗ Pipeline.scopedRest cfg0.spec c) := by
  rw [show (dats m 0 c).Φ (Fin.last cfg0.N) = after c m from rfl, scopedRest0_eq]
  unfold after scratch idle kept
  iintro ⟨Hv, Ha, Ho, ⟨%f, Hb⟩, ⟨Ht0, Hs0⟩, ⟨Ht1, Hs1⟩, Hw0, Hw1⟩
  ihave Hv := (sems_back (F := F) c) $$ [Hv Hs0 Hs1 Hw0 Hw1]
  · isplitl [Hv]; · iexact Hv
    unfold localSems
    isplitl [Hs0 Hs1]
    · isplitl [Hs0] <;> iassumption
    isplitl [Hw0] <;> iassumption
  icases Hv with ⟨Hos, Hus⟩
  ihave Ht := (slots_join (F := F) c) $$ [Ht0 Ht1]
  · isplitl [Ht0] <;> iassumption
  isplitl [Hus Ha Ho]
  · isplitl [Hus]; · iexact Hus
    isplitl [Ha] <;> iassumption
  isplitl [Hos]; · iexact Hos
  isplitl [Hb]
  · iexists f
    unfold bPts
    iexact Hb
  iexact Ht

/-- What the memory shows of device `c` at the end. -/
def Shows (s : MemSt nD τ sig (Elt F)) : Prop :=
  s.mem ((c : Thread nD τ).loc main_arg0) = m ((c : Thread nD τ).loc main_arg0)
    ∧ s.mem ((c : Thread nD τ).loc main_v1) = resultOf m c
    ∧ ∀ sm : SemLoc sig, sm.isScoped .tc = false → s.sem ((c : Thread nD τ), sm) = 0

theorem kept_read (s' : Phys nD τ sig (Elt F)) : iprop(kept c m ∗ emp ∗ SI s') ⊢ (|={Set.univ}=> iprop(⌜Shows c m s'.mem⌝ ∗ SI s') : sProp 𝕄) := by
  unfold kept aPts oPts
  iintro ⟨⟨Hus, Ha, Ho⟩, -, HSI⟩
  icombine HSI Ha gives %ha
  icombine HSI Ho gives %ho
  imod (Pipeline.unscopedSems0_read (X := unscopedSems0 c) (c := c) fupd_intro s') $$ [Hus HSI] with ⟨%hs, HSI⟩
  · isplitl [Hus] <;> iassumption
  imodintro
  isplitr
  · ipureintro
    exact ⟨Buf.eq_of_forall_mem_univ ha, Buf.eq_of_forall_mem_univ ho, hs⟩
  iexact HSI

/-! ## The run -/

/-- From any memory with counters at zero, on the 2×2×2 mesh, for any float values: every fair execution ends, and at its end
    each device's argument is unchanged, its result is the gathered array and every semaphore counter is at zero. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_v1) = resultOf m c) ∧ r.2.sem = fun _ => 0) :=
  Pipeline.θ_run_region_owing_glob_pf (fun p => (cfgs p).toPCfg) (fun p => (cfgs p).toPCfg_adm) (fun p c => dats (F := F) m p c) () cellOf_inj (0 : Fin 1)
    winFacts0.to₀ ownSemFacts (Pipeline.PreFacts.none _) EP defs₀ 𝒱₀ m ρ main
    (hmain := fun _ => rfl) (hbody := fun c => (body_obligation c m).loose) (hne := block_pos0) (harr := arr_whole0) (hstage := stage_whole0)
    (hshare := fun _ w => w.elim0) (hdistinct := winFacts0.arr_inj)
    (O₀ := owesAll) (howed₀ := fun _ => rfl) (howedN := fun _ => rfl)
    (L := L) (lv := lv) (hL := L_of_ne) (hwaits := fun c => waits c m)
    (G := dealt (blks (argOf m))) (G' := opened (blks (argOf m))) (u₀ := u₀)
    (hu₀ := by
      iintro Hu
      ihave H := (own_parts (F := F)) $$ Hu
      icases H with ⟨HP, HX⟩
      imod (deal (blks (argOf m))) $$ HX with HG
      imodintro
      isplitl [HP] <;> iassumption)
    (hglob := open_all (blks (argOf m))) (hA := fun _ w => w.elim0) (hpf := fun _ k => k.elim0)
    (X := fun c => given c m) (Y := fun c => kept c m) (Z := fun _ => iprop(emp))
    (hX := fun c => given_intro c m ρ) (hin := fun c => before_intro c m) (hout := fun c => after_exit c m)
    (QY := fun c s => Shows c m s) (hY := fun c s' => kept_read c m s')
    (hQ := fun s h hs => ⟨fun c => ⟨(h c).2.2.1, (h c).2.2.2.1⟩, sem_eq_zero hs fun c => (h c).2.2.2.2⟩)

end Cert.Kernel.Flow

end
-- ==== Proof.Same.lean ====
/-
# The idealized program is the same program

No operation was rewritten, so the idealized program's text is the kernel's own in another namespace: its buffers,
its table of bodies and its main program are the same terms, and what is proved of the one for every float
values holds of the other.
-/
module

public import proofs.«01_k».proof.Proof.Run
public import proofs.«01_k».proof.Proof.Gen.KernelIdeal.Launch

@[expose] public section

noncomputable section

namespace Cert.Same

open Idealize.ShloMosaic Idealize.ShloMosaic.TcCoe Idealize.SL Idealize.SL.Sem

variable {F : FTy → Type} [FloatOps F]

/-- The same buffers and semaphores. -/
theorem sig_eq : Cert.KernelIdeal.sig = Cert.Kernel.sig := rfl

set_option maxRecDepth 100000 in
/-- The same table of bodies. -/
theorem defs_eq : (Cert.KernelIdeal.defs (F := F)) = (Cert.Kernel.defs (F := F)) := by chain_rfl

set_option maxRecDepth 100000 in
/-- The same main program. -/
theorem main_eq : (Cert.KernelIdeal.main (F := F)) = (Cert.Kernel.main (F := F)) := by chain_rfl

/-- The idealized program's run: what was proved of the kernel's. -/
theorem run_main (m : (ℓ : Loc Cert.Kernel.nD Cert.Kernel.τ Cert.Kernel.sig) → Buf (Elt F) ℓ) (ρ : Dev Cert.Kernel.nD → PrngReg) :
    θ_run (Cert.KernelIdeal.defs (F := F)) (onTc (τ := Cert.KernelIdeal.τ) (Cert.KernelIdeal.main (F := F))) ⟨m, fun _ => 0, ρ⟩ (fun r =>
      (∀ c : Dev Cert.Kernel.nD,
        r.2.mem ((c.tc : Thread Cert.Kernel.nD Cert.Kernel.τ).loc Cert.Kernel.main_arg0)
          = m ((c.tc : Thread Cert.Kernel.nD Cert.Kernel.τ).loc Cert.Kernel.main_arg0)
        ∧ r.2.mem ((c.tc : Thread Cert.Kernel.nD Cert.Kernel.τ).loc Cert.Kernel.main_v1) = Cert.Kernel.Flow.resultOf m c)
      ∧ r.2.sem = fun _ => 0) := by
  rw [defs_eq, main_eq]
  exact Cert.Kernel.Flow.run_main m ρ

end Cert.Same

end
-- ==== Proof.Whole.lean ====
/-
# The gathered array is the whole array, cast

The devices hold blocks of one array of 16384 rows: the device whose coordinate along `x` is `a` holds rows
`8192 * a` up to `8192 * (a + 1)`, whatever its other two coordinates are. The gathered result reads row `r`
from a device whose coordinate along `x` is `r / 8192`, at the row `r % 8192` of its block; this is row `r` of
the whole array. The cast to bfloat16 acts on each element alone, so it may be made before or after.
-/
module

public import proofs.«01_k».proof.Proof.Body
public import Idealize.ShloMosaic.Lib.Layout

@[expose] public section

noncomputable section

namespace Cert.Kernel.Flow

open Cert.Kernel Cert.Kernel.Gen
open Idealize.ShloMosaic Idealize.ShloMosaic.TcCoe

variable {F : FTy → Type} [FloatOps F]

/-- The device that row `r` is read from has coordinate `r / 8192` along `x`. -/
theorem cx_whose (c : Dev nD) (r : Nat) (hr : r < 16384) : cx (whose c r) = r / 8192 := by
  have hd : r / 8192 = 0 ∨ r / 8192 = 1 := by omega
  have h0 := cx_lt c
  unfold whose
  split
  · omega
  split
  · rw [cx_xp]; omega
  · rw [cx_xp, cx_yp]; omega

/-- The block a device holds is the one its coordinate along `x` names. -/
theorem block_coord (d : Dev nD) : Layout.meshLin [2, 2, 2] d.val [0] = cx d := by
  revert d; decide

/-- What the device that row `i 0` is read from holds at that row is what the whole array holds at `i`. -/
theorem block_at (X : S16384x1024.Idx → F .f32) (c : Dev nD) (i : S16384x1024.Idx) :
    (Layout.blockN ⟨2, ![8192, 1024]⟩ ⟨2, ![16384, 1024]⟩ (Layout.meshBlock [2, 2, 2] ![[0], []] (whose c (i 0).val)) X)
      (at8 ((i 0).val % 8192) (Nat.mod_lt _ (by decide)) (i 1)) = X i := by
  rw [Layout.blockN_apply]
  congr 1
  funext a
  apply Fin.ext
  rw [Layout.TilesN.idx_val]
  match a with
  | ⟨0, _⟩ =>
    show Layout.meshLin [2, 2, 2] (whose c (i 0).val).val [0] * 8192 + (i 0).val % 8192 = (i 0).val
    rw [block_coord, cx_whose c _ (i 0).isLt]
    omega
  | ⟨1, _⟩ =>
    show 0 * 1024 + (i 1).val = (i 1).val
    omega

/-- If every device's block is its part of the array `X`, the gathered result is `X` cast. -/
theorem gath_whole (A : Dev nD → S8192x1024.Idx → F .f32) (X : S16384x1024.Idx → F .f32)
    (hA : ∀ d : Dev nD, A d = Layout.blockN ⟨2, ![8192, 1024]⟩ ⟨2, ![16384, 1024]⟩ (Layout.meshBlock [2, 2, 2] ![[0], []] d) X)
    (c : Dev nD) : gathOf (blks A) c = truncf .bf16 (X : FVec F S16384x1024 .f32) bitsLt_bf16_f32 := by
  funext i
  have e : A (whose c (i 0).val) (at8 ((i 0).val % 8192) (Nat.mod_lt _ (by decide)) (i 1)) = X i := by
    rw [hA, block_at]
  exact congrArg (FloatOps.truncf (F := F) .bf16 bitsLt_bf16_f32) e

end Cert.Kernel.Flow

end
-- ==== Proof.lean ====
/-
# The claims

The kernel's run (Proof/Run.lean) holds for any float values. Read at machine words and at the extended reals it gives the
frames, and with Proof/Whole.lean, which says that the gathered array is the cast of the whole one, the two value claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Same
public import proofs.«01_k».proof.Proof.Whole
public import Idealize.ShloMosaic.Adequacy
public import Idealize.ShloMosaic.Init

@[expose] public section

noncomputable section

namespace Cert.Proof

open Idealize.ShloMosaic Idealize.SL.Sem Cert.Kernel

/-- Every run of the kernel ends, with its argument unchanged and every semaphore at zero. -/
theorem kernel_frame : Cert.quiescent_Kernel (hKernel := Cert.Kernel.Gen.facts) := fun m g _ =>
  (θ_run _ _ _).mono (fun _ h => ⟨fun c => (h.1 c).1, h.2⟩) (Cert.Kernel.Flow.run_main m g)

/-- So does every run of its idealization. -/
theorem ideal_frame : Cert.quiescent_KernelIdeal (hKernelIdeal := Cert.KernelIdeal.Gen.facts) := fun m g _ =>
  (θ_run _ _ _).mono (fun _ h => ⟨fun c => (h.1 c).1, h.2⟩) (Cert.Same.run_main m g)

/-- And every run of the reference. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- From one array, held whole by the reference and in its blocks by the devices, each device's result is the
    reference's: the array cast. -/
theorem same_result : Cert.algebraic_KernelIdeal_ReferenceIdeal (hKernelIdeal := Cert.KernelIdeal.Gen.facts)
    (hReferenceIdeal := Cert.ReferenceIdeal.Gen.facts) := fun m g m' g' _ hm =>
  ⟨_, (θ_run _ _ _).mono (fun _ h c => ⟨(h.1 c).2.trans (Cert.Kernel.Flow.gath_whole (Cert.Kernel.Flow.argOf m) _ hm c), (h.1 c).1⟩)
      (Cert.Same.run_main m g),
    (θ_run _ _ _).mono (fun _ h => h 0) (Cert.ReferenceIdeal.Value.run m' g')⟩

/-- Every run of the reference over machine words ends as well. -/
theorem word_reference_frame : Cert.quiescent_Reference (hReference := Cert.Reference.Gen.facts) := fun m g _ =>
  (θ_run _ _ _).mono (fun r h => ⟨fun c => (h c).2, sem_eq_zero_of_no_sems (by decide) r.2⟩) (Cert.Reference.Value.run m g)

/-- Over machine words too each device's result is the reference's, word for word. -/
theorem same_words : Cert.bitexact_Kernel_Reference (hKernel := Cert.Kernel.Gen.facts)
    (hReference := Cert.Reference.Gen.facts) := fun m g m' g' _ hm =>
  ⟨_, (θ_run _ _ _).mono (fun _ h c => ⟨(h.1 c).2.trans (Cert.Kernel.Flow.gath_whole (Cert.Kernel.Flow.argOf m) _ hm c), (h.1 c).1⟩)
      (Cert.Kernel.Flow.run_main m g),
    (θ_run _ _ _).mono (fun _ h => h 0) (Cert.Reference.Value.run m' g')⟩

/-- All claims. -/
theorem claim : Cert.Claim := ⟨Cert.Kernel.Gen.facts, Cert.KernelIdeal.Gen.facts, Cert.ReferenceIdeal.Gen.facts,
  Cert.Reference.Gen.facts, kernel_frame, ideal_frame, reference_frame, word_reference_frame, trivial, same_result, same_words⟩

end Cert.Proof

end
